-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v339) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S2x12x512x128 : Shape := ⟨4, ![2, 12, 512, 128]⟩
abbrev S2x512x12 : Shape := ⟨3, ![2, 512, 12]⟩
abbrev S512x512 : Shape := ⟨2, ![512, 512]⟩
abbrev S128x128 : Shape := ⟨2, ![128, 128]⟩
abbrev S128 : Shape := ⟨1, ![128]⟩
abbrev S_ : Shape := ⟨0, ![]⟩

class Facts : Prop where
  bcast_S_S2x12x512x128 : S_.BroadcastsInDim S2x12x512x128 (![] : Fin 0 → Fin S2x12x512x128.rank)
  reducesTo_S2x12x512x128_S_d0_1_2_3 : S2x12x512x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg7 : FVec F S128x128 .f32) (main_arg8 : FVec F S128 .f32) (main_v3 : IVec S_ 1) (main_v7 : IVec S_ 1) (main_v11 : IVec S_ 1) (main_v15 : IVec S_ 1) : IVec S_ 1 :=
  let main_v16 : FVec F S128x128 .f32 := Host.absf main_arg7
  let main_cst_6 : FVec F S_ .f32 := constant S_ .f32 0x7F800000#32
  let main_v17 : FVec F S128x128 .f32 := broadcastInDim S128x128 ![] bcast_S_S128x128 main_cst_6
  let main_v18 : IVec S128x128 1 := cmpf .olt main_v16 main_v17
  let main_c_7 : IVec S_ 1 := constantI S_ 1 1#1
  let main_v19 : IVec S_ 1 := (fun x v => Host.reduce IntOp.andi x v reducesTo_S128x128_S_d0_1 h_S_) main_v18 main_c_7
  let main_v20 : FVec F S128 .f32 := Host.absf main_arg8
  let main_cst_8 : FVec F S_ .f32 := constant S_ .f32 0x7F800000#32
  let main_v21 : FVec F S128 .f32 := broadcastInDim S128 ![] bcast_S_S128 main_cst_8
  let main_v22 : IVec S128 1 := cmpf .olt main_v20 main_v21
  let main_c_9 : IVec S_ 1 := constantI S_ 1 1#1
  let main_v23 : IVec S_ 1 := (fun x v => Host.reduce IntOp.andi x v reducesTo_S128_S_d0 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x12x512x128 .f32) (main_arg1 : FVec F S2x12x512x128 .f32) (main_arg2 : FVec F S2x12x512x128 .f32) (main_arg3 : FVec F S2x512x12 .f32) (main_arg4 : FVec F S512x512 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : IVec S_ 32) : IVec S_ 1 :=
  let main_v0 : FVec F S2x12x512x128 .f32 := Host.absf main_arg0
  let main_cst : FVec F S_ .f32 := constant S_ .f32 0x7F800000#32
  let main_v1 : FVec F S2x12x512x128 .f32 := broadcastInDim S2x12x512x128 ![] bcast_S_S2x12x512x128 main_cst
  let main_v2 : IVec S2x12x512x128 1 := cmpf .olt main_v0 main_v1
  let main_c : IVec S_ 1 := constantI S_ 1 1#1
  let main_v3 : IVec S_ 1 := (fun x v => Host.reduce IntOp.andi x v reducesTo_S2x12x512x128_S_d0_1_2_3 h_S_) main_v2 main_c
  let main_v4 : FVec F S2x12x512x128 .f32 := Host.absf main_arg1
  let main_cst_0 : FVec F S_ .f32 := constant S_ .f32 0x7F800000#32
  let main_v5 : FVec F S2x12x512x128 .f32 := broadcastInDim S2x12x512x128 ![] bcast_S_S2x12x512x128 main_cst_0
  let main_v6 : IVec S2x12x512x128 1 := cmpf .olt main_v4 main_v5
  let main_c_1 : IVec S_ 1 := constantI S_ 1 1#1
  let main_v7 : IVec S_ 1 := (fun x v => Host.reduce IntOp.andi x v reducesTo_S2x12x512x128_S_d0_1_2_3 h_S_) main_v6 main_c_1
  let main_v8 : FVec F S128x128 .f32 := Host.absf main_arg5
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : FVec F S128 .f32 := Host.absf main_arg6
  let main_cst_4 : FVec F S_ .f32 := constant S_ .f32 0x7F800000#32
  let main_v13 : FVec F S128 .f32 := broadcastInDim S128 ![] bcast_S_S128 main_cst_4
  let main_v14 : IVec S128 1 := cmpf .olt main_v12 main_v13
  let main_c_5 : IVec S_ 1 := constantI S_ 1 1#1
  let main_v15 : IVec S_ 1 := (fun x v => Host.reduce IntOp.andi x v reducesTo_S128_S_d0 h_S_) main_v14 main_c_5
  fn_part1 (F := F) main_arg7 main_arg8 main_v3 main_v7 main_v11 main_v15
-- ==== Kernel.lean ====
abbrev S2x12x512x128 : Shape := ⟨4, ![2, 12, 512, 128]⟩
abbrev S2x512x12 : Shape := ⟨3, ![2, 512, 12]⟩
abbrev S512x512 : Shape := ⟨2, ![512, 512]⟩
abbrev S128x128 : Shape := ⟨2, ![128, 128]⟩
abbrev S128 : Shape := ⟨1, ![128]⟩
abbrev S_ : Shape := ⟨0, ![]⟩
abbrev S2x512x128 : Shape := ⟨3, ![2, 512, 128]⟩
abbrev S2x128x512 : Shape := ⟨3, ![2, 128, 512]⟩
abbrev S2x512x512 : Shape := ⟨3, ![2, 512, 512]⟩
abbrev S1x512x128 : Shape := ⟨3, ![1, 512, 128]⟩
abbrev S1x128x512 : Shape := ⟨3, ![1, 128, 512]⟩
abbrev S1x512x512 : Shape := ⟨3, ![1, 512, 512]⟩
abbrev S512x128 : Shape := ⟨2, ![512, 128]⟩
abbrev S128x512 : Shape := ⟨2, ![128, 512]⟩
abbrev S512x1 : Shape := ⟨2, ![512, 1]⟩
abbrev S1x512 : Shape := ⟨2, ![1, 512]⟩
abbrev S512x511 : Shape := ⟨2, ![512, 511]⟩
abbrev S512x2 : Shape := ⟨2, ![512, 2]⟩
abbrev S512x510 : Shape := ⟨2, ![512, 510]⟩
abbrev S512x4 : Shape := ⟨2, ![512, 4]⟩
abbrev S512x508 : Shape := ⟨2, ![512, 508]⟩
abbrev S512x8 : Shape := ⟨2, ![512, 8]⟩
abbrev S512x504 : Shape := ⟨2, ![512, 504]⟩
abbrev S512x16 : Shape := ⟨2, ![512, 16]⟩
abbrev S512x496 : Shape := ⟨2, ![512, 496]⟩
abbrev S512x32 : Shape := ⟨2, ![512, 32]⟩
abbrev S512x480 : Shape := ⟨2, ![512, 480]⟩
abbrev S512x64 : Shape := ⟨2, ![512, 64]⟩
abbrev S512x448 : Shape := ⟨2, ![512, 448]⟩
abbrev S512x384 : Shape := ⟨2, ![512, 384]⟩
abbrev S512x256 : Shape := ⟨2, ![512, 256]⟩
abbrev S512 : Shape := ⟨1, ![512]⟩
abbrev S1x128 : Shape := ⟨2, ![1, 128]⟩
abbrev S1x1x512x128 : Shape := ⟨4, ![1, 1, 512, 128]⟩

abbrev nBuf : Space → Nat
  | .hbm => 34
  | .vmem => 24
  | .smem => 0
  | _ => 0

abbrev bufTy : (tb : Table) → Fin (tcTables nBuf tb) → BufTy
  | .hbm, ⟨0, _⟩ => ⟨S2x12x512x128, .f32⟩
  | .hbm, ⟨1, _⟩ => ⟨S2x12x512x128, .f32⟩
  | .hbm, ⟨2, _⟩ => ⟨S2x12x512x128, .f32⟩
  | .hbm, ⟨3, _⟩ => ⟨S2x512x12, .f32⟩
  | .hbm, ⟨4, _⟩ => ⟨S512x512, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S2x512x128, .f32⟩
  | .hbm, ⟨17, _⟩ => ⟨S2x128x512, .f32⟩
  | .hbm, ⟨18, _⟩ => ⟨S2x512x512, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S128x128, .f32⟩
  | .hbm, ⟨28, _⟩ => ⟨S1x128, .f32⟩
  | .hbm, ⟨29, _⟩ => ⟨S128x128, .f32⟩
  | .hbm, ⟨30, _⟩ => ⟨S1x128, .f32⟩
  | .hbm, ⟨31, _⟩ => ⟨S128x128, .f32⟩
  | .hbm, ⟨32, _⟩ => ⟨S1x128, .f32⟩
  | .hbm, ⟨33, _⟩ => ⟨S2x12x512x128, .f32⟩
  | .local _ .vmem, ⟨0, _⟩ => ⟨S1x512x128, .f32⟩
  | .local _ .vmem, ⟨1, _⟩ => ⟨S1x512x128, .f32⟩
  | .local _ .vmem, ⟨2, _⟩ => ⟨S1x128x512, .f32⟩
  | .local _ .vmem, ⟨3, _⟩ => ⟨S1x128x512, .f32⟩
  | .local _ .vmem, ⟨4, _⟩ => ⟨S1x512x512, .f32⟩
  | .local _ .vmem, ⟨5, _⟩ => ⟨S1x512x512, .f32⟩
  | .local _ .vmem, ⟨6, _⟩ => ⟨S1x1x512x128, .f32⟩
  | .local _ .vmem, ⟨7, _⟩ => ⟨S1x1x512x128, .f32⟩
  | .local _ .vmem, ⟨8, _⟩ => ⟨S1x1x512x128, .f32⟩
  | .local _ .vmem, ⟨9, _⟩ => ⟨S1x1x512x128, .f32⟩
  | .local _ .vmem, ⟨10, _⟩ => ⟨S1x1x512x128, .f32⟩
  | .local _ .vmem, ⟨11, _⟩ => ⟨S1x1x512x128, .f32⟩
  | .local _ .vmem, ⟨12, _⟩ => ⟨S1x512x512, .f32⟩
  | .local _ .vmem, ⟨13, _⟩ => ⟨S1x512x512, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S1x1x512x128, .f32⟩
  | .local _ .vmem, ⟨23, _⟩ => ⟨S1x1x512x128, .f32⟩
  | _, _ => ⟨S2x12x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem12_1 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 12], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S1x1x512x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== ReferenceIdeal.lean ====
abbrev S2x12x512x128 : Shape := ⟨4, ![2, 12, 512, 128]⟩
abbrev S2x512x12 : Shape := ⟨3, ![2, 512, 12]⟩
abbrev S512x512 : Shape := ⟨2, ![512, 512]⟩
abbrev S128x128 : Shape := ⟨2, ![128, 128]⟩
abbrev S128 : Shape := ⟨1, ![128]⟩
abbrev S_ : Shape := ⟨0, ![]⟩
abbrev S1x1x1x128 : Shape := ⟨4, ![1, 1, 1, 128]⟩
abbrev S2x12x512x16 : Shape := ⟨4, ![2, 12, 512, 16]⟩
abbrev S16x12x512x16 : Shape := ⟨4, ![16, 12, 512, 16]⟩
abbrev S16x12x512x512 : Shape := ⟨4, ![16, 12, 512, 512]⟩
abbrev S2x512x1x12 : Shape := ⟨4, ![2, 512, 1, 12]⟩
abbrev S2x1x512x12 : Shape := ⟨4, ![2, 1, 512, 12]⟩
abbrev S2x512x512x12 : Shape := ⟨4, ![2, 512, 512, 12]⟩
abbrev S2x512x512 : Shape := ⟨3, ![2, 512, 512]⟩
abbrev S2x512x1 : Shape := ⟨3, ![2, 512, 1]⟩
abbrev S2x512 : Shape := ⟨2, ![2, 512]⟩
abbrev S2x1x512 : Shape := ⟨3, ![2, 1, 512]⟩
abbrev S2x512x0 : Shape := ⟨3, ![2, 512, 0]⟩
abbrev S2x1x512x512 : Shape := ⟨4, ![2, 1, 512, 512]⟩
abbrev S1x2x1x1x1x512x1x512 : Shape := ⟨8, ![1, 2, 1, 1, 1, 512, 1, 512]⟩
abbrev S8x2x12x1x1x512x1x512 : Shape := ⟨8, ![8, 2, 12, 1, 1, 512, 1, 512]⟩
abbrev S16x12x512 : Shape := ⟨3, ![16, 12, 512]⟩
abbrev S16x12x512x1 : Shape := ⟨4, ![16, 12, 512, 1]⟩

abbrev nBuf : Space → Nat
  | .hbm => 404
  | .vmem => 0
  | .smem => 0
  | _ => 0

abbrev hbmTy0_0 (i : Nat) : BufTy := match i % 128 with
  | 0 => ⟨S2x12x512x128, .f32⟩
  | 1 => ⟨S2x12x512x128, .f32⟩
  | 2 => ⟨S2x12x512x128, .f32⟩
  | 3 => ⟨S2x512x12, .f32⟩
  | 4 => ⟨S512x512, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S_, .i32⟩
  | 14 => ⟨S128x128, .f32⟩
  | 15 => ⟨S2x12x512x128, .f32⟩
  | 16 => ⟨S1x1x1x128, .f32⟩
  | 17 => ⟨S2x12x512x128, .f32⟩
  | 18 => ⟨S2x12x512x128, .f32⟩
  | 19 => ⟨S128x128, .f32⟩
  | 20 => ⟨S2x12x512x128, .f32⟩
  | 21 => ⟨S1x1x1x128, .f32⟩
  | 22 => ⟨S2x12x512x128, .f32⟩
  | 23 => ⟨S2x12x512x128, .f32⟩
  | 24 => ⟨S128x128, .f32⟩
  | 25 => ⟨S2x12x512x128, .f32⟩
  | 26 => ⟨S1x1x1x128, .f32⟩
  | 27 => ⟨S2x12x512x128, .f32⟩
  | 28 => ⟨S2x12x512x128, .f32⟩
  | 29 => ⟨S2x12x512x16, .f32⟩
  | 30 => ⟨S2x12x512x16, .f32⟩
  | 31 => ⟨S2x12x512x16, .f32⟩
  | 32 => ⟨S2x12x512x16, .f32⟩
  | 33 => ⟨S2x12x512x16, .f32⟩
  | 34 => ⟨S2x12x512x16, .f32⟩
  | 35 => ⟨S2x12x512x16, .f32⟩
  | 36 => ⟨S2x12x512x16, .f32⟩
  | 37 => ⟨S16x12x512x16, .f32⟩
  | 38 => ⟨S2x12x512x16, .f32⟩
  | 39 => ⟨S2x12x512x16, .f32⟩
  | 40 => ⟨S2x12x512x16, .f32⟩
  | 41 => ⟨S2x12x512x16, .f32⟩
  | 42 => ⟨S2x12x512x16, .f32⟩
  | 43 => ⟨S2x12x512x16, .f32⟩
  | 44 => ⟨S2x12x512x16, .f32⟩
  | 45 => ⟨S2x12x512x16, .f32⟩
  | 46 => ⟨S16x12x512x16, .f32⟩
  | 47 => ⟨S2x12x512x16, .f32⟩
  | 48 => ⟨S2x12x512x16, .f32⟩
  | 49 => ⟨S2x12x512x16, .f32⟩
  | 50 => ⟨S2x12x512x16, .f32⟩
  | 51 => ⟨S2x12x512x16, .f32⟩
  | 52 => ⟨S2x12x512x16, .f32⟩
  | 53 => ⟨S2x12x512x16, .f32⟩
  | 54 => ⟨S2x12x512x16, .f32⟩
  | 55 => ⟨S16x12x512x16, .f32⟩
  | 56 => ⟨S16x12x512x512, .f32⟩
  | 57 => ⟨S_, .f32⟩
  | 58 => ⟨S16x12x512x512, .f32⟩
  | 59 => ⟨S16x12x512x512, .f32⟩
  | 60 => ⟨S2x512x1x12, .f32⟩
  | 61 => ⟨S2x1x512x12, .f32⟩
  | 62 => ⟨S2x512x512x12, .f32⟩
  | 63 => ⟨S2x512x512x12, .f32⟩
  | 64 => ⟨S2x512x512x12, .f32⟩
  | 65 => ⟨S2x512x512x12, .f32⟩
  | 66 => ⟨S_, .f32⟩
  | 67 => ⟨S2x512x512, .f32⟩
  | 68 => ⟨S2x512x512, .f32⟩
  | 69 => ⟨S2x512x1, .f32⟩
  | 70 => ⟨S2x512, .f32⟩
  | 71 => ⟨S_, .f32⟩
  | 72 => ⟨S2x512, .f32⟩
  | 73 => ⟨S2x512, .f32⟩
  | 74 => ⟨S2x512x1, .f32⟩
  | 75 => ⟨S2x512, .f32⟩
  | 76 => ⟨S_, .f32⟩
  | 77 => ⟨S2x512, .f32⟩
  | 78 => ⟨S2x512, .f32⟩
  | 79 => ⟨S2x512, .f32⟩
  | 80 => ⟨S2x512x1, .f32⟩
  | 81 => ⟨S2x512, .f32⟩
  | 82 => ⟨S_, .f32⟩
  | 83 => ⟨S2x512, .f32⟩
  | 84 => ⟨S2x512, .f32⟩
  | 85 => ⟨S2x512x1, .f32⟩
  | 86 => ⟨S2x512, .f32⟩
  | 87 => ⟨S_, .f32⟩
  | 88 => ⟨S2x512, .f32⟩
  | 89 => ⟨S2x512, .f32⟩
  | 90 => ⟨S2x512, .f32⟩
  | 91 => ⟨S2x512x1, .f32⟩
  | 92 => ⟨S2x512, .f32⟩
  | 93 => ⟨S_, .f32⟩
  | 94 => ⟨S2x512, .f32⟩
  | 95 => ⟨S2x512, .f32⟩
  | 96 => ⟨S2x512x1, .f32⟩
  | 97 => ⟨S2x512, .f32⟩
  | 98 => ⟨S_, .f32⟩
  | 99 => ⟨S2x512, .f32⟩
  | 100 => ⟨S2x512, .f32⟩
  | 101 => ⟨S2x512, .f32⟩
  | 102 => ⟨S2x512x1, .f32⟩
  | 103 => ⟨S2x512, .f32⟩
  | 104 => ⟨S_, .f32⟩
  | 105 => ⟨S2x512, .f32⟩
  | 106 => ⟨S2x512, .f32⟩
  | 107 => ⟨S2x512x1, .f32⟩
  | 108 => ⟨S2x512, .f32⟩
  | 109 => ⟨S_, .f32⟩
  | 110 => ⟨S2x512, .f32⟩
  | 111 => ⟨S2x512, .f32⟩
  | 112 => ⟨S2x512, .f32⟩
  | 113 => ⟨S2x512x1, .f32⟩
  | 114 => ⟨S2x512, .f32⟩
  | 115 => ⟨S_, .f32⟩
  | 116 => ⟨S2x512, .f32⟩
  | 117 => ⟨S2x512, .f32⟩
  | 118 => ⟨S2x512x1, .f32⟩
  | 119 => ⟨S2x512, .f32⟩
  | 120 => ⟨S_, .f32⟩
  | 121 => ⟨S2x512, .f32⟩
  | 122 => ⟨S2x512, .f32⟩
  | 123 => ⟨S2x512, .f32⟩
  | 124 => ⟨S2x512x1, .f32⟩
  | 125 => ⟨S2x512, .f32⟩
  | 126 => ⟨S_, .f32⟩
  | 127 => ⟨S2x512, .f32⟩
  | _ => ⟨S2x12x512x128, .f32⟩

abbrev hbmTy0_1 (i : Nat) : BufTy := match i % 128 with
  | 0 => ⟨S2x512, .f32⟩
  | 1 => ⟨S2x512x1, .f32⟩
  | 2 => ⟨S2x512, .f32⟩
  | 3 => ⟨S_, .f32⟩
  | 4 => ⟨S2x512, .f32⟩
  | 5 => ⟨S2x512, .f32⟩
  | 6 => ⟨S2x512, .f32⟩
  | 7 => ⟨S2x512x1, .f32⟩
  | 8 => ⟨S2x512, .f32⟩
  | 9 => ⟨S_, .f32⟩
  | 10 => ⟨S2x512, .f32⟩
  | 11 => ⟨S2x512, .f32⟩
  | 12 => ⟨S2x512x1, .f32⟩
  | 13 => ⟨S2x512, .f32⟩
  | 14 => ⟨S_, .f32⟩
  | 15 => ⟨S2x512, .f32⟩
  | 16 => ⟨S2x512, .f32⟩
  | 17 => ⟨S2x512, .f32⟩
  | 18 => ⟨S2x512x1, .f32⟩
  | 19 => ⟨S2x512, .f32⟩
  | 20 => ⟨S_, .f32⟩
  | 21 => ⟨S2x512, .f32⟩
  | 22 => ⟨S2x512, .f32⟩
  | 23 => ⟨S2x512x1, .f32⟩
  | 24 => ⟨S2x512, .f32⟩
  | 25 => ⟨S_, .f32⟩
  | 26 => ⟨S2x512, .f32⟩
  | 27 => ⟨S2x512, .f32⟩
  | 28 => ⟨S2x512, .f32⟩
  | 29 => ⟨S2x512x1, .f32⟩
  | 30 => ⟨S2x512, .f32⟩
  | 31 => ⟨S_, .f32⟩
  | 32 => ⟨S2x512, .f32⟩
  | 33 => ⟨S2x512, .f32⟩
  | 34 => ⟨S2x512x1, .f32⟩
  | 35 => ⟨S2x512, .f32⟩
  | 36 => ⟨S_, .f32⟩
  | 37 => ⟨S2x512, .f32⟩
  | 38 => ⟨S2x512, .f32⟩
  | 39 => ⟨S2x512, .f32⟩
  | 40 => ⟨S2x512x1, .f32⟩
  | 41 => ⟨S2x512, .f32⟩
  | 42 => ⟨S_, .f32⟩
  | 43 => ⟨S2x512, .f32⟩
  | 44 => ⟨S2x512, .f32⟩
  | 45 => ⟨S2x512x1, .f32⟩
  | 46 => ⟨S2x512, .f32⟩
  | 47 => ⟨S_, .f32⟩
  | 48 => ⟨S2x512, .f32⟩
  | 49 => ⟨S2x512, .f32⟩
  | 50 => ⟨S2x512, .f32⟩
  | 51 => ⟨S2x512x1, .f32⟩
  | 52 => ⟨S2x512, .f32⟩
  | 53 => ⟨S_, .f32⟩
  | 54 => ⟨S2x512, .f32⟩
  | 55 => ⟨S2x512, .f32⟩
  | 56 => ⟨S2x512x1, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S2x512x1, .f32⟩
  | 63 => ⟨S2x512, .f32⟩
  | 64 => ⟨S_, .f32⟩
  | 65 => ⟨S2x512, .f32⟩
  | 66 => ⟨S2x512, .f32⟩
  | 67 => ⟨S2x512x1, .f32⟩
  | 68 => ⟨S2x512, .f32⟩
  | 69 => ⟨S_, .f32⟩
  | 70 => ⟨S2x512, .f32⟩
  | 71 => ⟨S2x512, .f32⟩
  | 72 => ⟨S2x512, .f32⟩
  | 73 => ⟨S2x512x1, .f32⟩
  | 74 => ⟨S2x512, .f32⟩
  | 75 => ⟨S_, .f32⟩
  | 76 => ⟨S2x512, .f32⟩
  | 77 => ⟨S2x512, .f32⟩
  | 78 => ⟨S2x512x1, .f32⟩
  | 79 => ⟨S2x512, .f32⟩
  | 80 => ⟨S_, .f32⟩
  | 81 => ⟨S2x512, .f32⟩
  | 82 => ⟨S2x512, .f32⟩
  | 83 => ⟨S2x512, .f32⟩
  | 84 => ⟨S2x512x1, .f32⟩
  | 85 => ⟨S2x512, .f32⟩
  | 86 => ⟨S_, .f32⟩
  | 87 => ⟨S2x512, .f32⟩
  | 88 => ⟨S2x512, .f32⟩
  | 89 => ⟨S2x512x1, .f32⟩
  | 90 => ⟨S2x512, .f32⟩
  | 91 => ⟨S_, .f32⟩
  | 92 => ⟨S2x512, .f32⟩
  | 93 => ⟨S2x512, .f32⟩
  | 94 => ⟨S2x512, .f32⟩
  | 95 => ⟨S2x512x1, .f32⟩
  | 96 => ⟨S2x512, .f32⟩
  | 97 => ⟨S_, .f32⟩
  | 98 => ⟨S2x512, .f32⟩
  | 99 => ⟨S2x512, .f32⟩
  | 100 => ⟨S2x512x1, .f32⟩
  | 101 => ⟨S2x512, .f32⟩
  | 102 => ⟨S_, .f32⟩
  | 103 => ⟨S2x512, .f32⟩
  | 104 => ⟨S2x512, .f32⟩
  | 105 => ⟨S2x512, .f32⟩
  | 106 => ⟨S2x512x1, .f32⟩
  | 107 => ⟨S2x512, .f32⟩
  | 108 => ⟨S_, .f32⟩
  | 109 => ⟨S2x512, .f32⟩
  | 110 => ⟨S2x512, .f32⟩
  | 111 => ⟨S2x512x1, .f32⟩
  | 112 => ⟨S2x512, .f32⟩
  | 113 => ⟨S_, .f32⟩
  | 114 => ⟨S2x512, .f32⟩
  | 115 => ⟨S2x512, .f32⟩
  | 116 => ⟨S2x512, .f32⟩
  | 117 => ⟨S2x512x1, .f32⟩
  | 118 => ⟨S2x512, .f32⟩
  | 119 => ⟨S_, .f32⟩
  | 120 => ⟨S2x512, .f32⟩
  | 121 => ⟨S2x512, .f32⟩
  | 122 => ⟨S2x512x1, .f32⟩
  | 123 => ⟨S2x512, .f32⟩
  | 124 => ⟨S_, .f32⟩
  | 125 => ⟨S2x512, .f32⟩
  | 126 => ⟨S2x512, .f32⟩
  | 127 => ⟨S2x512, .f32⟩
  | _ => ⟨S2x12x512x128, .f32⟩

abbrev hbmTy0_2 (i : Nat) : BufTy := match i % 128 with
  | 0 => ⟨S2x512x1, .f32⟩
  | 1 => ⟨S2x512, .f32⟩
  | 2 => ⟨S_, .f32⟩
  | 3 => ⟨S2x512, .f32⟩
  | 4 => ⟨S2x512, .f32⟩
  | 5 => ⟨S2x512x1, .f32⟩
  | 6 => ⟨S2x512, .f32⟩
  | 7 => ⟨S_, .f32⟩
  | 8 => ⟨S2x512, .f32⟩
  | 9 => ⟨S2x512, .f32⟩
  | 10 => ⟨S2x512, .f32⟩
  | 11 => ⟨S2x512x1, .f32⟩
  | 12 => ⟨S2x512, .f32⟩
  | 13 => ⟨S_, .f32⟩
  | 14 => ⟨S2x512, .f32⟩
  | 15 => ⟨S2x512, .f32⟩
  | 16 => ⟨S2x512x1, .f32⟩
  | 17 => ⟨S2x512, .f32⟩
  | 18 => ⟨S_, .f32⟩
  | 19 => ⟨S2x512, .f32⟩
  | 20 => ⟨S2x512, .f32⟩
  | 21 => ⟨S2x512, .f32⟩
  | 22 => ⟨S2x512x1, .f32⟩
  | 23 => ⟨S2x512x1, .f32⟩
  | 24 => ⟨S2x512x1, .f32⟩
  | 25 => ⟨S2x512x1, .f32⟩
  | 26 => ⟨S2x512x1, .f32⟩
  | 27 => ⟨S2x512x1, .f32⟩
  | 28 => ⟨S2x512x1, .f32⟩
  | 29 => ⟨S2x512x1, .f32⟩
  | 30 => ⟨S2x512x1, .f32⟩
  | 31 => ⟨S2x512x1, .f32⟩
  | 32 => ⟨S2x512x1, .f32⟩
  | 33 => ⟨S2x512x1, .f32⟩
  | 34 => ⟨S2x512x1, .f32⟩
  | 35 => ⟨S2x512x1, .f32⟩
  | 36 => ⟨S2x512x1, .f32⟩
  | 37 => ⟨S2x512x1, .f32⟩
  | 38 => ⟨S2x512x1, .f32⟩
  | 39 => ⟨S2x512x1, .f32⟩
  | 40 => ⟨S2x512x1, .f32⟩
  | 41 => ⟨S2x512x512, .f32⟩
  | 42 => ⟨S2x512x512, .i1⟩
  | 43 => ⟨S2x512x512, .f32⟩
  | 44 => ⟨S2x512x512, .i1⟩
  | 45 => ⟨S2x512x512, .f32⟩
  | 46 => ⟨S2x512x512, .i1⟩
  | 47 => ⟨S2x512x512, .i1⟩
  | 48 => ⟨S2x512x512, .i1⟩
  | 49 => ⟨S2x512x512, .f32⟩
  | 50 => ⟨S2x512x512, .i1⟩
  | 51 => ⟨S2x512x512, .f32⟩
  | 52 => ⟨S2x512x512, .i1⟩
  | 53 => ⟨S2x512x512, .i1⟩
  | 54 => ⟨S2x512x512, .i1⟩
  | 55 => ⟨S2x512x512, .f32⟩
  | 56 => ⟨S2x512x512, .i1⟩
  | 57 => ⟨S2x512x512, .f32⟩
  | 58 => ⟨S2x512x512, .i1⟩
  | 59 => ⟨S2x512x512, .i1⟩
  | 60 => ⟨S2x512x512, .i1⟩
  | 61 => ⟨S2x512x512, .f32⟩
  | 62 => ⟨S2x512x512, .i1⟩
  | 63 => ⟨S2x512x512, .f32⟩
  | 64 => ⟨S2x512x512, .i1⟩
  | 65 => ⟨S2x512x512, .i1⟩
  | 66 => ⟨S2x512x512, .i1⟩
  | 67 => ⟨S2x512x512, .f32⟩
  | 68 => ⟨S2x512x512, .i1⟩
  | 69 => ⟨S2x512x512, .f32⟩
  | 70 => ⟨S2x512x512, .i1⟩
  | 71 => ⟨S2x512x512, .i1⟩
  | 72 => ⟨S2x512x512, .i1⟩
  | 73 => ⟨S2x512x512, .f32⟩
  | 74 => ⟨S2x512x512, .i1⟩
  | 75 => ⟨S2x512x512, .f32⟩
  | 76 => ⟨S2x512x512, .i1⟩
  | 77 => ⟨S2x512x512, .i1⟩
  | 78 => ⟨S2x512x512, .i1⟩
  | 79 => ⟨S2x512x512, .f32⟩
  | 80 => ⟨S2x512x512, .i1⟩
  | 81 => ⟨S2x512x512, .f32⟩
  | 82 => ⟨S2x512x512, .i1⟩
  | 83 => ⟨S2x512x512, .i1⟩
  | 84 => ⟨S2x512x512, .i1⟩
  | 85 => ⟨S2x512x512, .f32⟩
  | 86 => ⟨S2x512x512, .i1⟩
  | 87 => ⟨S2x512x512, .f32⟩
  | 88 => ⟨S2x512x512, .i1⟩
  | 89 => ⟨S2x512x512, .i1⟩
  | 90 => ⟨S2x512x512, .i1⟩
  | 91 => ⟨S2x512x512, .f32⟩
  | 92 => ⟨S2x512x512, .i1⟩
  | 93 => ⟨S2x512x512, .f32⟩
  | 94 => ⟨S2x512x512, .i1⟩
  | 95 => ⟨S2x512x512, .i1⟩
  | 96 => ⟨S2x512x512, .i1⟩
  | 97 => ⟨S_, .f32⟩
  | 98 => ⟨S2x512, .f32⟩
  | 99 => ⟨S_, .f32⟩
  | 100 => ⟨S2x512, .f32⟩
  | 101 => ⟨S2x512, .f32⟩
  | 102 => ⟨S2x1x512, .f32⟩
  | 103 => ⟨S_, .f32⟩
  | 104 => ⟨S2x1x512, .f32⟩
  | 105 => ⟨S2x1x512, .i1⟩
  | 106 => ⟨S2x512x512, .i1⟩
  | 107 => ⟨S2x512x512, .i1⟩
  | 108 => ⟨S_, .i1⟩
  | 109 => ⟨S2x512x0, .i1⟩
  | 110 => ⟨S2x512x512, .i1⟩
  | 111 => ⟨S2x1x512x512, .i1⟩
  | 112 => ⟨S1x2x1x1x1x512x1x512, .i1⟩
  | 113 => ⟨S8x2x12x1x1x512x1x512, .i1⟩
  | 114 => ⟨S16x12x512x512, .i1⟩
  | 115 => ⟨S_, .f32⟩
  | 116 => ⟨S_, .f32⟩
  | 117 => ⟨S16x12x512x512, .f32⟩
  | 118 => ⟨S16x12x512x512, .f32⟩
  | 119 => ⟨S_, .f32⟩
  | 120 => ⟨S16x12x512, .f32⟩
  | 121 => ⟨S_, .f32⟩
  | 122 => ⟨S16x12x512, .f32⟩
  | 123 => ⟨S16x12x512, .f32⟩
  | 124 => ⟨S16x12x512x1, .f32⟩
  | 125 => ⟨S16x12x512x512, .f32⟩
  | 126 => ⟨S16x12x512x512, .f32⟩
  | 127 => ⟨S16x12x512x512, .f32⟩
  | _ => ⟨S2x12x512x128, .f32⟩

abbrev hbmTy0_3 (i : Nat) : BufTy := match i % 128 with
  | 0 => ⟨S_, .f32⟩
  | 1 => ⟨S16x12x512, .f32⟩
  | 2 => ⟨S16x12x512x1, .f32⟩
  | 3 => ⟨S16x12x512x512, .f32⟩
  | 4 => ⟨S16x12x512x512, .f32⟩
  | 5 => ⟨S16x12x512x16, .f32⟩
  | 6 => ⟨S2x12x512x16, .f32⟩
  | 7 => ⟨S2x12x512x16, .f32⟩
  | 8 => ⟨S2x12x512x16, .f32⟩
  | 9 => ⟨S2x12x512x16, .f32⟩
  | 10 => ⟨S2x12x512x16, .f32⟩
  | 11 => ⟨S2x12x512x16, .f32⟩
  | 12 => ⟨S2x12x512x16, .f32⟩
  | 13 => ⟨S2x12x512x16, .f32⟩
  | 14 => ⟨S2x12x512x128, .f32⟩
  | 15 => ⟨S128x128, .f32⟩
  | 16 => ⟨S2x12x512x128, .f32⟩
  | 17 => ⟨S1x1x1x128, .f32⟩
  | 18 => ⟨S2x12x512x128, .f32⟩
  | 19 => ⟨S2x12x512x128, .f32⟩
  | _ => ⟨S2x12x512x128, .f32⟩

abbrev hbmTy (i : Nat) : BufTy := match i / 128 with
  | 0 => hbmTy0_0 i
  | 1 => hbmTy0_1 i
  | 2 => hbmTy0_2 i
  | 3 => hbmTy0_3 i
  | _ => ⟨S2x12x512x128, .f32⟩

abbrev bufTy : (tb : Table) → Fin (tcTables nBuf tb) → BufTy
  | .hbm, ⟨i, _⟩ => hbmTy i
  | _, _ => ⟨S2x12x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_0 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_1 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_2 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_3 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_4 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_5 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_6 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_7 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_8 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_9 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_10 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_11 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_12 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_13 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_14 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_15 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_16 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_17 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_18 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_19 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_20 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_21 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_22 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_23 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_cst_24 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_cst_25 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_26 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_cst_27 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_cst_28 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_cst_29 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_cst_30 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_cst_31 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_cst_32 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_cst_33 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_cst_34 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_cst_35 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_cst_36 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_cst_37 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_cst_38 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_cst_39 : Ref sig .tc := ⟨.hbm, 353, rfl⟩
abbrev main_v299 : Ref sig .tc := ⟨.hbm, 354, rfl⟩
abbrev main_cst_40 : Ref sig .tc := ⟨.hbm, 355, rfl⟩
abbrev main_v300 : Ref sig .tc := ⟨.hbm, 356, rfl⟩
abbrev main_v301 : Ref sig .tc := ⟨.hbm, 357, rfl⟩
abbrev main_v302 : Ref sig .tc := ⟨.hbm, 358, rfl⟩
abbrev main_cst_41 : Ref sig .tc := ⟨.hbm, 359, rfl⟩
abbrev main_v303 : Ref sig .tc := ⟨.hbm, 360, rfl⟩
abbrev main_v304 : Ref sig .tc := ⟨.hbm, 361, rfl⟩
abbrev main_v305 : Ref sig .tc := ⟨.hbm, 362, rfl⟩
abbrev main_v306 : Ref sig .tc := ⟨.hbm, 363, rfl⟩
abbrev main_c : Ref sig .tc := ⟨.hbm, 364, rfl⟩
abbrev main_v307 : Ref sig .tc := ⟨.hbm, 365, rfl⟩
abbrev main_v308 : Ref sig .tc := ⟨.hbm, 366, rfl⟩
abbrev main_v309 : Ref sig .tc := ⟨.hbm, 367, rfl⟩
abbrev main_v310 : Ref sig .tc := ⟨.hbm, 368, rfl⟩
abbrev main_v311 : Ref sig .tc := ⟨.hbm, 369, rfl⟩
abbrev main_v312 : Ref sig .tc := ⟨.hbm, 370, rfl⟩
abbrev main_cst_42 : Ref sig .tc := ⟨.hbm, 371, rfl⟩
abbrev main_call1_v0 : Ref sig .tc := ⟨.hbm, 372, rfl⟩
abbrev main_call1_v1 : Ref sig .tc := ⟨.hbm, 373, rfl⟩
abbrev main_v313 : Ref sig .tc := ⟨.hbm, 374, rfl⟩
abbrev main_cst_43 : Ref sig .tc := ⟨.hbm, 375, rfl⟩
abbrev main_v314 : Ref sig .tc := ⟨.hbm, 376, rfl⟩
abbrev main_cst_44 : Ref sig .tc := ⟨.hbm, 377, rfl⟩
abbrev main_v315 : Ref sig .tc := ⟨.hbm, 378, rfl⟩
abbrev main_v316 : Ref sig .tc := ⟨.hbm, 379, rfl⟩
abbrev main_v317 : Ref sig .tc := ⟨.hbm, 380, rfl⟩
abbrev main_v318 : Ref sig .tc := ⟨.hbm, 381, rfl⟩
abbrev main_v319 : Ref sig .tc := ⟨.hbm, 382, rfl⟩
abbrev main_v320 : Ref sig .tc := ⟨.hbm, 383, rfl⟩
abbrev main_cst_45 : Ref sig .tc := ⟨.hbm, 384, rfl⟩
abbrev main_v321 : Ref sig .tc := ⟨.hbm, 385, rfl⟩
abbrev main_v322 : Ref sig .tc := ⟨.hbm, 386, rfl⟩
abbrev main_v323 : Ref sig .tc := ⟨.hbm, 387, rfl⟩
abbrev main_v324 : Ref sig .tc := ⟨.hbm, 388, rfl⟩
abbrev main_v325 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_v337 : Ref sig .tc := ⟨.hbm, 401, rfl⟩
abbrev main_v338 : Ref sig .tc := ⟨.hbm, 402, rfl⟩
abbrev main_v339 : Ref sig .tc := ⟨.hbm, 403, rfl⟩

abbrev nD : Nat := 1
abbrev τ : Topo := Topo.v7x

variable {F : FTy → Type} [FloatOps F]
-- ==== Proof.Launch.lean ====
module

public import Idealize.ShloMosaic.Lib.Pointwise
public import proofs.«01_k».proof.Proof.Gen.KernelIdeal.Frame

@[expose] public section

set_option maxRecDepth 16384

noncomputable section

/-! The run of the idealized kernel, with its result array read off the last segment boundary. -/

namespace Cert.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends with the result array at the last boundary's contents and the arguments as launched. -/
theorem run_result : θ_run defs (onTc (τ := τ) (main (F := Ideal))) ⟨m, fun _ => 0, ρ⟩ (fun r => ∀ c : Dev nD,
      r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨h c _ (mem_uc main_v15 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.Run
end
-- ==== Proof.Regions.lean ====
module

public import Idealize.ShloMosaic.Lib.Pipeline.Value
public import Idealize.ShloMosaic.Lib.Pipeline.ValueKit.Point
public import Idealize.ShloMosaic.Lib.Pointwise
public import proofs.«01_k».proof.Proof.Gen.KernelIdeal.Frame

@[expose] public section

set_option maxRecDepth 65536

noncomputable section

/-! The two regions' result arrays, each index at what the body leaves in the block that holds it. -/

namespace Cert.Reg

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem i0_0 : ∀ t : Fin grid0.N, win0_0.index t = ![t.val, 0, 0] := by decide +kernel
theorem i0_1 : ∀ t : Fin grid0.N, win0_1.index t = ![t.val, 0, 0] := by decide +kernel
theorem i0_2 : ∀ t : Fin grid0.N, win0_2.index t = ![t.val, 0, 0] := by decide +kernel

theorem lt0 (t : Fin cfg0.N) : t.val < 2 := t.isLt

theorem b0_0 (t : Fin cfg0.N) (p : S1x512x128.Idx) :
    iblk0 V c 0 t p = V c main_v0 (ix3 ⟨t.val, lt0 t⟩ (p 1) (p 2)) := by
  unfold iblk0
  blk_simp
  congr 1
  blk_ext [i0_0]

theorem b0_1 (t : Fin cfg0.N) (p : S1x128x512.Idx) :
    iblk0 V c 1 t p = V c main_v1 (ix3 ⟨t.val, lt0 t⟩ (p 1) (p 2)) := by
  unfold iblk0
  blk_simp
  congr 1
  blk_ext [i0_1]

/-- The mask array. -/
def M0 (i : S2x512x512.Idx) : EReal :=
  out0_2 (F := Ideal) (fun p => V c main_v0 (ix3 (i 0) (p 1) (p 2))) (fun p => V c main_v1 (ix3 (i 0) (p 1) (p 2)))
    (ix3 0 (i 1) (i 2))

theorem arr0 : (dat0 V c).arrAt 2 cfg0.N = M0 V c := by
  refine (dat0 V c).arrAt_eq_of_covers 2 _ (by decide +kernel) fun t hf y => ?_
  blk_simp
  rw [after0_2]
  have e0 : iblk0 V c 0 t = fun p => V c main_v0 (ix3 ⟨t.val, lt0 t⟩ (p 1) (p 2)) := funext (b0_0 V c t)
  have e1 : iblk0 V c 1 t = fun p => V c main_v1 (ix3 ⟨t.val, lt0 t⟩ (p 1) (p 2)) := funext (b0_1 V c t)
  rw [e0, e1]
  have e : (win0_2.blk t).view.emb y = ix3 ⟨t.val, lt0 t⟩ (y 1) (y 2) := by blk_ext [i0_2]
  have ey : y = ix3 (0 : Fin 1) (y 1) (y 2) := by
    funext a
    fin_cases a
    · exact Subsingleton.elim (α := Fin 1) _ _
    · rfl
    · rfl
  rw [e]
  unfold M0
  exact congrArg _ ey

theorem i1_0 : ∀ t : Fin grid1.N, win1_0.index t = ![t.val / 12, t.val % 12, 0, 0] := by decide +kernel
theorem i1_1 : ∀ t : Fin grid1.N, win1_1.index t = ![t.val / 12, t.val % 12, 0, 0] := by decide +kernel
theorem i1_2 : ∀ t : Fin grid1.N, win1_2.index t = ![t.val / 12, t.val % 12, 0, 0] := by decide +kernel
theorem i1_3 : ∀ t : Fin grid1.N, win1_3.index t = ![t.val / 12, 0, 0] := by decide +kernel
theorem i1_4 : ∀ t : Fin grid1.N, win1_4.index t = ![0, 0] := by decide +kernel
theorem i1_5 : ∀ t : Fin grid1.N, win1_5.index t = ![0, 0] := by decide +kernel
theorem i1_6 : ∀ t : Fin grid1.N, win1_6.index t = ![0, 0] := by decide +kernel
theorem i1_7 : ∀ t : Fin grid1.N, win1_7.index t = ![0, 0] := by decide +kernel
theorem i1_8 : ∀ t : Fin grid1.N, win1_8.index t = ![0, 0] := by decide +kernel
theorem i1_9 : ∀ t : Fin grid1.N, win1_9.index t = ![0, 0] := by decide +kernel
theorem i1_10 : ∀ t : Fin grid1.N, win1_10.index t = ![0, 0] := by decide +kernel
theorem i1_11 : ∀ t : Fin grid1.N, win1_11.index t = ![0, 0] := by decide +kernel
theorem i1_12 : ∀ t : Fin grid1.N, win1_12.index t = ![t.val / 12, t.val % 12, 0, 0] := by decide +kernel

theorem lt1 (t : Fin cfg1.N) : t.val < 24 := t.isLt
/-- The batch and the step of a point. -/
def pb (t : Fin cfg1.N) : Fin 2 := ⟨t.val / 12, by have := lt1 t; omega⟩
def ps (t : Fin cfg1.N) : Fin 12 := ⟨t.val % 12, by omega⟩

theorem b1_0 (t : Fin cfg1.N) : iblk1 V c 0 t = fun p => V c main_arg0 (ix4 (pb t) (ps t) (p 2) (p 3)) := by
  funext p
  unfold iblk1
  blk_simp
  congr 1
  blk_ext [i1_0, pb, ps]

theorem b1_1 (t : Fin cfg1.N) : iblk1 V c 1 t = fun p => V c main_arg1 (ix4 (pb t) (ps t) (p 2) (p 3)) := by
  funext p
  unfold iblk1
  blk_simp
  congr 1
  blk_ext [i1_1, pb, ps]

theorem b1_2 (t : Fin cfg1.N) : iblk1 V c 2 t = fun p => V c main_arg2 (ix4 (pb t) (ps t) (p 2) (p 3)) := by
  funext p
  unfold iblk1
  blk_simp
  congr 1
  blk_ext [i1_2, pb, ps]

theorem b1_3 (t : Fin cfg1.N) : iblk1 V c 3 t = fun p => V c main_v2 (ix3 (pb t) (p 1) (p 2)) := by
  funext p
  unfold iblk1
  blk_simp
  congr 1
  blk_ext [i1_3, pb, ps]

theorem b1_4 (t : Fin cfg1.N) : iblk1 V c 4 t = V c main_v5 := by
  funext p
  unfold iblk1
  blk_simp
  congr 1
  blk_ext [i1_4, pb, ps]

theorem b1_5 (t : Fin cfg1.N) : iblk1 V c 5 t = V c main_v8 := by
  funext p
  unfold iblk1
  blk_simp
  congr 1
  blk_ext [i1_5, pb, ps]

theorem b1_6 (t : Fin cfg1.N) : iblk1 V c 6 t = V c main_v9 := by
  funext p
  unfold iblk1
  blk_simp
  congr 1
  blk_ext [i1_6, pb, ps]

theorem b1_7 (t : Fin cfg1.N) : iblk1 V c 7 t = V c main_v10 := by
  funext p
  unfold iblk1
  blk_simp
  congr 1
  blk_ext [i1_7, pb, ps]

theorem b1_8 (t : Fin cfg1.N) : iblk1 V c 8 t = V c main_v11 := by
  funext p
  unfold iblk1
  blk_simp
  congr 1
  blk_ext [i1_8, pb, ps]

theorem b1_9 (t : Fin cfg1.N) : iblk1 V c 9 t = V c main_v12 := by
  funext p
  unfold iblk1
  blk_simp
  congr 1
  blk_ext [i1_9, pb, ps]

theorem b1_10 (t : Fin cfg1.N) : iblk1 V c 10 t = V c main_v13 := by
  funext p
  unfold iblk1
  blk_simp
  congr 1
  blk_ext [i1_10, pb, ps]

theorem b1_11 (t : Fin cfg1.N) : iblk1 V c 11 t = V c main_v14 := by
  funext p
  unfold iblk1
  blk_simp
  congr 1
  blk_ext [i1_11, pb, ps]

/-- The attention array. -/
def M1 (i : S2x12x512x128.Idx) : EReal :=
  out1_12 (F := Ideal) (fun p => V c main_arg0 (ix4 (i 0) (i 1) (p 2) (p 3))) (fun p => V c main_arg1 (ix4 (i 0) (i 1) (p 2) (p 3))) (fun p => V c main_arg2 (ix4 (i 0) (i 1) (p 2) (p 3))) (fun p => V c main_v2 (ix3 (i 0) (p 1) (p 2))) (V c main_v5) (V c main_v8) (V c main_v9) (V c main_v10) (V c main_v11) (V c main_v12) (V c main_v13) (V c main_v14)
    (ix4 0 0 (i 2) (i 3))

theorem arr1 : (dat1 V c).arrAt 12 cfg1.N = M1 V c := by
  refine (dat1 V c).arrAt_eq_of_covers 12 _ (by decide +kernel) fun t hf y => ?_
  blk_simp
  rw [after1_12]
  rw [b1_0, b1_1, b1_2, b1_3, b1_4, b1_5, b1_6, b1_7, b1_8, b1_9, b1_10, b1_11]
  have e : (win1_12.blk t).view.emb y = ix4 (pb t) (ps t) (y 2) (y 3) := by blk_ext [i1_12, pb, ps]
  have ey : y = ix4 (0 : Fin 1) (0 : Fin 1) (y 2) (y 3) := by
    funext a
    fin_cases a
    · exact Subsingleton.elim (α := Fin 1) _ _
    · exact Subsingleton.elim (α := Fin 1) _ _
    · rfl
    · rfl
  rw [e]
  unfold M1
  exact congrArg _ ey

end Cert.Reg
end
-- ==== Proof.HostVals.lean ====
module

public import Idealize.ShloMosaic.Lib.Pointwise
public import proofs.«01_k».proof.Proof.Gen.KernelIdeal.Frame

@[expose] public section

set_option maxRecDepth 65536

noncomputable section

/-! What the host operations around the two regions leave: the padded tables, the transposed and scaled weights. -/

namespace Cert.Host1

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! The arguments, as arrays. -/

abbrev aQ : Vec Ideal S2x12x512x128 .f32 := m ((c.tc : Thread nD τ).loc main_arg0)
abbrev aK : Vec Ideal S2x12x512x128 .f32 := m ((c.tc : Thread nD τ).loc main_arg1)
abbrev aV : Vec Ideal S2x12x512x128 .f32 := m ((c.tc : Thread nD τ).loc main_arg2)
abbrev aX : Vec Ideal S2x512x12 .f32 := m ((c.tc : Thread nD τ).loc main_arg3)
abbrev aWq : Vec Ideal S128x128 .f32 := m ((c.tc : Thread nD τ).loc main_arg5)
abbrev abq : Vec Ideal S128 .f32 := m ((c.tc : Thread nD τ).loc main_arg6)
abbrev aWk : Vec Ideal S128x128 .f32 := m ((c.tc : Thread nD τ).loc main_arg7)
abbrev abk : Vec Ideal S128 .f32 := m ((c.tc : Thread nD τ).loc main_arg8)
abbrev aWv : Vec Ideal S128x128 .f32 := m ((c.tc : Thread nD τ).loc main_arg9)
abbrev abv : Vec Ideal S128 .f32 := m ((c.tc : Thread nD τ).loc main_arg10)
abbrev aWo : Vec Ideal S128x128 .f32 := m ((c.tc : Thread nD τ).loc main_arg11)
abbrev abo : Vec Ideal S128 .f32 := m ((c.tc : Thread nD τ).loc main_arg12)

theorem pad_val (x : FVec Ideal S2x512x12 .f32) (z : FVec Ideal S_ .f32) (b : Fin 2) (r : Fin 512) (k : Fin 128) :
    pad S2x512x128 ![0, 0, 0] ![0, 0, 116] ![0, 0, 0] x z pads_S2x512x12_S2x512x128_000_000_01160 h_S_ (ix3 b r k)
      = if h : k.val < 12 then x (ix3 b r ⟨k.val, h⟩) else z (fun a => a.elim0) := by
  pointwise
  have hb := b.isLt
  have hr := r.isLt
  by_cases hk : k.val < 12
  · rw [dif_pos hk, dif_pos hk]
  · rw [dif_neg hk, dif_neg hk]
    exact congrArg z (funext fun a => a.elim0)

theorem W_args0 : W0 m ρ c (Proc.devRef .tc main_arg3) = m ((c.tc : Thread nD τ).loc main_arg3) := rfl

theorem v0_eq : V3 m ρ c main_v0 = pad S2x512x128 ![0, 0, 0] ![0, 0, 116] ![0, 0, 0]
    (m ((c.tc : Thread nD τ).loc main_arg3)) (sitofp (F := Ideal) FTy.f32 (constantI S_ 32 0#32)) pads_S2x512x12_S2x512x128_000_000_01160 h_S_ := by
  show W3 m ρ c (Proc.devRef .tc main_v0) = _
  rw [W3_of m ρ c main_v0 (by decide)]
  unfold W2 W1
  simp only [hostOps0, hostOps0_1, TRef.unary, TRef.binary, TRef.toBuf, TRef.ofBuf, cast_eq]
  after_results_simp

theorem v1_eq : V3 m ρ c main_v1 = transpose S2x128x512 [0, 2, 1] (V3 m ρ c main_v0) transposes_S2x512x128_S2x128x512_0_2_1 := by
  show W3 m ρ c (Proc.devRef .tc main_v1) = _
  rw [show V3 m ρ c main_v0 = W2 m ρ c (Proc.devRef .tc main_v0) from W3_of m ρ c main_v0 (by decide)]
  unfold W3
  generalize W2 m ρ c = W
  simp only [hostOps0_2]
  after_results_simp

theorem v0_val (b : Fin 2) (r : Fin 512) (k : Fin 128) : V3 m ρ c main_v0 (ix3 b r k)
    = if h : k.val < 12 then aX m c (ix3 b r ⟨k.val, h⟩) else (0 : EReal) := by
  rw [v0_eq]
  refine (pad_val (aX m c) _ b r k).trans ?_
  have hz : sitofp (F := Ideal) FTy.f32 (constantI S_ 32 0#32) (fun a => a.elim0) = (0 : EReal) := by
    show FloatOps.sitofp (F := Ideal) FTy.f32 (0#32) = (0 : EReal)
    show (((0#32 : BitVec 32).toInt : ℝ) : EReal) = 0
    simp
  rw [hz]

theorem v1_val (b : Fin 2) (k : Fin 128) (r : Fin 512) : V3 m ρ c main_v1 (ix3 b k r) = V3 m ρ c main_v0 (ix3 b r k) := by
  rw [v1_eq]
  generalize V3 m ρ c main_v0 = x
  pointwise

theorem v5_val (i e : Fin 128) : V5 m ρ c main_v5 (ix2 i e)
    = aWq m c (ix2 e i) * Ideal.ofBits FTy.f32 0x3E800000#32 := by
  show W5 m ρ c (Proc.devRef .tc main_v5) _ = _
  unfold W5
  simp only [hostOps1]
  after_results_simp
  rw [W4_args m ρ c main_arg5 (by decide)]
  pointwise
  try rfl

theorem v8_val (e : Fin 128) : V5 m ρ c main_v8 (ix2 0 e)
    = abq m c (ix1 e) * Ideal.ofBits FTy.f32 0x3E800000#32 := by
  show W5 m ρ c (Proc.devRef .tc main_v8) _ = _
  unfold W5
  simp only [hostOps1]
  after_results_simp
  rw [W4_args m ρ c main_arg6 (by decide)]
  pointwise
  try rfl

theorem v9_val (i e : Fin 128) : V5 m ρ c main_v9 (ix2 i e)
    = aWk m c (ix2 e i) := by
  show W5 m ρ c (Proc.devRef .tc main_v9) _ = _
  unfold W5
  simp only [hostOps1]
  after_results_simp
  rw [W4_args m ρ c main_arg7 (by decide)]
  pointwise
  try rfl

theorem v11_val (i e : Fin 128) : V5 m ρ c main_v11 (ix2 i e)
    = aWv m c (ix2 e i) := by
  show W5 m ρ c (Proc.devRef .tc main_v11) _ = _
  unfold W5
  simp only [hostOps1]
  after_results_simp
  rw [W4_args m ρ c main_arg9 (by decide)]
  pointwise
  try rfl

theorem v13_val (i e : Fin 128) : V5 m ρ c main_v13 (ix2 i e)
    = aWo m c (ix2 e i) := by
  show W5 m ρ c (Proc.devRef .tc main_v13) _ = _
  unfold W5
  simp only [hostOps1]
  after_results_simp
  rw [W4_args m ρ c main_arg11 (by decide)]
  pointwise
  try rfl

theorem v10_val (e : Fin 128) : V5 m ρ c main_v10 (ix2 0 e)
    = abk m c (ix1 e) := by
  show W5 m ρ c (Proc.devRef .tc main_v10) _ = _
  unfold W5
  simp only [hostOps1]
  after_results_simp
  rw [W4_args m ρ c main_arg8 (by decide)]
  pointwise
  try rfl

theorem v12_val (e : Fin 128) : V5 m ρ c main_v12 (ix2 0 e)
    = abv m c (ix1 e) := by
  show W5 m ρ c (Proc.devRef .tc main_v12) _ = _
  unfold W5
  simp only [hostOps1]
  after_results_simp
  rw [W4_args m ρ c main_arg10 (by decide)]
  pointwise
  try rfl

theorem v14_val (e : Fin 128) : V5 m ρ c main_v14 (ix2 0 e)
    = abo m c (ix1 e) := by
  show W5 m ρ c (Proc.devRef .tc main_v14) _ = _
  unfold W5
  simp only [hostOps1]
  after_results_simp
  rw [W4_args m ρ c main_arg12 (by decide)]
  pointwise
  try rfl

theorem a0_eq : V5 m ρ c main_arg0 = m ((c.tc : Thread nD τ).loc main_arg0) := W5_args m ρ c main_arg0 (by decide)
theorem a1_eq : V5 m ρ c main_arg1 = m ((c.tc : Thread nD τ).loc main_arg1) := W5_args m ρ c main_arg1 (by decide)
theorem a2_eq : V5 m ρ c main_arg2 = m ((c.tc : Thread nD τ).loc main_arg2) := W5_args m ρ c main_arg2 (by decide)

/-- The attention region finds the mask array as the mask region left it. -/
theorem v2_eq : V5 m ρ c main_v2 = (dat0 (V3 m ρ) c).arrAt 2 cfg0.N :=
  (W5_of m ρ c main_v2 (by decide)).trans (W4_arr m ρ c 2)

end Cert.Host1
end
-- ==== Proof.Net.lean ====
module

public import proofs.«01_k».proof.Proof.Gen.KernelIdeal.Skeleton
public import Idealize.ShloMosaic.Lib.Pointwise
public import Idealize.ShloMosaic.Lib.SortNet.Sorts
public import Idealize.ShloMosaic.PureOps.Ideal

@[expose] public section

set_option maxRecDepth 16384

noncomputable section

/-! The compare-exchange stages of the mask kernel's sorting network, named. -/

namespace Cert.Srt

open Idealize.ShloMosaic Cert.KernelIdeal Cert.KernelIdeal.Gen

/-- A 512 × 512 array of extended reals. -/
abbrev Arr := FVec Ideal S512x512 .f32

/-- Every position's lane number. -/
def lanes : IVec S512x512 32 := iota .tc S512x512 32 [1] iota_S512x512_d1_w32

/-- Whether the lane number has the bit `k`. -/
def bitOf (k : BitVec 32) : IVec S512x512 1 :=
  cmpi .ne (andi lanes (broadcast S512x512 k)) (broadcast S512x512 0#32)

/-- The exchange of an array with its partners: the greater entry where exactly one of the two bits is set. -/
def cx (j k : BitVec 32) (v p : Arr) : Arr := select (xori (bitOf j) (bitOf k)) (maximumf v p) (minimumf v p)

/-- The first `n` columns' shape. -/
abbrev cols (n : Nat) : Shape := ⟨2, ![512, n]⟩

/-- The shapes of a roll by `n` lanes, and of one by `m`, fit. -/
structure Rolls (n m : Nat) : Prop where
  last : S512x512.Slices ![0, m] (cols n)
  front : S512x512.Slices ![0, 0] (cols m)
  right : Shape.Concatenates [cols n, cols m] S512x512 1
  rest : S512x512.Slices ![0, n] (cols m)
  first : S512x512.Slices ![0, 0] (cols n)
  left : Shape.Concatenates [cols m, cols n] S512x512 1

theorem rolls (s : Fin 9) : Rolls (2 ^ s.val) (512 - 2 ^ s.val) := by
  fin_cases s <;> constructor <;> decide

/-- The partner of every lane at distance `n`: the row rolled right where the lane has that bit, left where not. -/
def pt (n m : Nat) (h : Rolls n m) (v : Arr) : Arr :=
  select (bitOf (BitVec.ofNat 32 n))
    (concatenate S512x512 1 [⟨cols n, extractStridedSlice (cols n) ![0, m] v h.last⟩,
      ⟨cols m, extractStridedSlice (cols m) ![0, 0] v h.front⟩] h.right)
    (concatenate S512x512 1 [⟨cols m, extractStridedSlice (cols m) ![0, n] v h.rest⟩,
      ⟨cols n, extractStridedSlice (cols n) ![0, 0] v h.first⟩] h.left)

/-- Stage `s` of level `l`. -/
def st (s : Fin 9) (l : Nat) (v : Arr) : Arr :=
  cx (BitVec.ofNat 32 (2 ^ s.val)) (BitVec.ofNat 32 (2 ^ l)) v (pt _ _ (rolls s) v)

theorem bit_word (c j : Nat) (hc : c < 512) (hj : j < 2 ^ 32) :
    IntOp.cmpi CmpIPredicate.ne (IntOp.andi (BitVec.ofNat 32 c) (BitVec.ofNat 32 j)) 0#32
      = if c &&& j = 0 then 0#1 else 1#1 := by
  have e : (BitVec.ofNat 32 c &&& BitVec.ofNat 32 j) = BitVec.ofNat 32 (c &&& j) := by
    apply BitVec.eq_of_toNat_eq
    rw [BitVec.toNat_and, BitVec.toNat_ofNat, BitVec.toNat_ofNat, BitVec.toNat_ofNat, Nat.mod_eq_of_lt (by omega),
      Nat.mod_eq_of_lt hj, Nat.mod_eq_of_lt (lt_of_le_of_lt Nat.and_le_left (by omega))]
  unfold IntOp.cmpi IntOp.andi
  rw [e]
  have hlt : c &&& j < 2 ^ 32 := lt_of_le_of_lt Nat.and_le_left (by omega)
  by_cases h : c &&& j = 0
  · rw [if_pos h, h]; rfl
  · rw [if_neg h]
    have : BitVec.ofNat 32 (c &&& j) ≠ 0#32 := fun h0 => by
      have := congrArg BitVec.toNat h0
      rw [BitVec.toNat_ofNat, Nat.mod_eq_of_lt hlt] at this
      exact h this
    show BitVec.ofBool (BitVec.ofNat 32 (c &&& j) != 0#32) = 1#1
    rw [bne_iff_ne.mpr this]; rfl

theorem bitOf_row (r c : Fin 512) (j : Nat) (hj : j < 2 ^ 32) :
    bitOf (BitVec.ofNat 32 j) (ix2 r c) = if c.val &&& j = 0 then 0#1 else 1#1 := by
  unfold bitOf lanes
  pointwise
  exact bit_word c.val j c.isLt hj

/-- A row of the array, its 512 positions counted as the network counts them. -/
abbrev row (v : Arr) (r : Fin 512) : Fin (2 ^ 9) → EReal := fun c => v (ix2 r (c : Fin 512))

theorem and_partner (s l : Nat) (hs : s < 9) (hsl : s ≠ l) (c : Fin (2 ^ 9)) :
    (SortNet.partner 9 s c).val &&& 2 ^ l = c.val &&& 2 ^ l := by
  rw [SortNet.partner_val hs, Nat.and_xor_distrib_right]
  have : 2 ^ s &&& 2 ^ l = 0 := by
    apply Nat.eq_of_testBit_eq
    intro i
    rw [Nat.testBit_and, Nat.testBit_two_pow, Nat.testBit_two_pow, Nat.zero_testBit]
    by_cases h : s = i
    · subst h; simp [Ne.symm hsl]
    · simp [h]
  rw [this, Nat.xor_zero]

theorem select_bits (a b : Prop) [Decidable a] [Decidable b] (x y : EReal) :
    Scalar.select (IntOp.xori (if a then 0#1 else 1#1) (if b then 0#1 else 1#1)) (max x y) (min x y)
      = if decide (y < x) = (decide a != decide b) then x else y := by
  rw [SortNet.ite_lt_eq_max_min]
  by_cases ha : a <;> by_cases hb : b <;> simp [ha, hb, Scalar.select, IntOp.xori]

/-- The exchange of an array with its partners at distance `2 ^ s` is the network's stage on every row. -/
theorem cx_row (s l : Nat) (hs : s < 9) (hsl : s < l) (hl : l ≤ 9) (v p : Arr) (r : Fin 512)
    (hp : ∀ c : Fin (2 ^ 9), p (ix2 r (c : Fin 512)) = row v r (SortNet.partner 9 s c)) :
    row (cx (BitVec.ofNat 32 (2 ^ s)) (BitVec.ofNat 32 (2 ^ l)) v p) r
      = SortNet.Network.apply (SortNet.stage 9 s fun i => decide (i.val &&& 2 ^ l = 0) == false) (row v r) := by
  have h2 : ∀ n : Nat, n ≤ 9 → 2 ^ n < 2 ^ 32 := fun n hn => Nat.pow_lt_pow_right (by decide) (by omega)
  rw [SortNet.stage_congr (w' := fun i : Fin (2 ^ 9) => decide (i.val &&& 2 ^ s = 0) != decide (i.val &&& 2 ^ l = 0))
    (fun i hi => by rw [hi]; cases decide (i.val &&& 2 ^ l = 0) <;> rfl)]
  funext c
  rw [SortNet.apply_stage_select hs _ (fun j => by
    rw [and_partner s l hs (by omega)]
    by_cases hj : j.val &&& 2 ^ s = 0
    · rw [SortNet.partner_and hs j hj, hj]; simp
    · rw [SortNet.partner_and_of_set hs j hj]; simp [hj])]
  show Scalar.select (IntOp.xori (bitOf _ (ix2 r (c : Fin 512))) (bitOf _ (ix2 r (c : Fin 512))))
    (max (v (ix2 r (c : Fin 512))) (p (ix2 r (c : Fin 512)))) (min (v (ix2 r (c : Fin 512))) (p (ix2 r (c : Fin 512)))) = _
  rw [bitOf_row r c _ (h2 s (by omega)), bitOf_row r c _ (h2 l hl), hp c]
  exact select_bits _ _ _ _

/-- What the two rotations give a lane: the entry below at a lane with the bit, the entry above at one without. -/
theorem roll_pick (s j : Nat) (hs : s < 9) (hj : j = 2 ^ s) (f : Fin 512 → EReal) (c : Fin (2 ^ 9))
    (a b : EReal) (ha : j ≤ c.val → ∀ h : c.val - j < 512, a = f ⟨c.val - j, h⟩)
    (hb : ∀ h : c.val + j < 512, b = f ⟨c.val + j, h⟩) :
    Scalar.select (if c.val &&& j = 0 then 0#1 else 1#1) a b = f (SortNet.partner 9 s c) := by
  subst hj
  by_cases h : c.val &&& 2 ^ s = 0
  · rw [if_pos h]
    have e := SortNet.partner_val_of_clear hs c h
    have hl := (SortNet.partner 9 s c).isLt
    rw [e] at hl
    have e2 : (SortNet.partner 9 s c : Fin 512) = ⟨c.val + 2 ^ s, hl⟩ := Fin.ext e
    show b = f (SortNet.partner 9 s c : Fin 512)
    rw [e2]; exact hb hl
  · rw [if_neg h]
    obtain ⟨hle, e⟩ := SortNet.partner_val_of_set hs c h
    have hl := (SortNet.partner 9 s c).isLt
    rw [e] at hl
    have e2 : (SortNet.partner 9 s c : Fin 512) = ⟨c.val - 2 ^ s, hl⟩ := Fin.ext e
    show a = f (SortNet.partner 9 s c : Fin 512)
    rw [e2]; exact ha hle hl

theorem pt_row (s n m : Nat) (hs : s < 9) (hn : n = 2 ^ s) (hm : n + m = 512) (h : Rolls n m) (v : Arr) (r : Fin 512)
    (c : Fin (2 ^ 9)) : pt n m h v (ix2 r (c : Fin 512)) = row v r (SortNet.partner 9 s c) := by
  have hb := bitOf_row r c n (by omega)
  unfold pt
  generalize bitOf _ = B at hb ⊢
  obtain ⟨c, hc⟩ := c
  pointwise
  refine (congrArg (fun z => Scalar.select z _ _) hb).trans ?_
  exact roll_pick s n hs hn (fun x => v (ix2 r x)) ⟨c, hc⟩ _ _
    (fun h1 h2 => by rw [dif_neg (by show ¬ c < n; exact Nat.not_lt.mpr h1)]; rfl)
    (fun h1 => by
      have h1' : c + n < 512 := h1
      rw [dif_pos (by show c < m; omega)]; congr 2; exact Fin.ext (Nat.add_comm _ _))

/-- A stage of the kernel is the network's stage on every row. -/
theorem st_row (s : Fin 9) (l : Nat) (hl : s.val < l) (hl9 : l ≤ 9) (v : Arr) (r : Fin 512) :
    row (st s l v) r
      = SortNet.Network.apply (SortNet.stage 9 s.val fun i => decide (i.val &&& 2 ^ l = 0) == false) (row v r) :=
  cx_row s.val l s.isLt hl hl9 v _ r (pt_row s.val _ _ s.isLt rfl
    (Nat.add_sub_cancel' (Nat.pow_le_pow_right (n := 2) (by decide) (show s.val ≤ 9 by omega))) (rolls s) v r)

end Cert.Srt
end
-- ==== Proof.NetPay.lean ====
module

public import proofs.«01_k».proof.Proof.Net
public import proofs.«01_k».proof.Proof.Gen.KernelIdeal.Frame

@[expose] public section

set_option maxRecDepth 16384

noncomputable section

/-! The mask kernel's sorting network, put together: its 45 stages leave every row of the distances sorted. -/

namespace Cert.Srt

open Idealize.ShloMosaic Cert.KernelIdeal Cert.KernelIdeal.Gen

variable (x0 : Vec Ideal S1x512x128 .f32) (x1 : Vec Ideal S1x128x512 .f32)

theorem k0_pay88_eq : k0_pay88 (F := Ideal) x0 x1
    = st 0 1 (k0_pay87 (F := Ideal) x0 x1) := rfl

theorem k0_pay93_eq : k0_pay93 (F := Ideal) x0 x1
    = st 0 3 (st 1 3 (st 2 3 (st 0 2 (st 1 2 (k0_pay88 (F := Ideal) x0 x1))))) := rfl

theorem k0_pay100_eq : k0_pay100 (F := Ideal) x0 x1
    = st 1 5 (st 2 5 (st 3 5 (st 4 5 (st 0 4 (st 1 4 (st 2 4 (st 3 4 (k0_pay93 (F := Ideal) x0 x1)))))))) := rfl

theorem k0_pay106_eq : k0_pay106 (F := Ideal) x0 x1
    = st 2 6 (st 3 6 (st 4 6 (st 5 6 (st 0 5 (k0_pay100 (F := Ideal) x0 x1))))) := rfl

theorem k0_pay113_eq : k0_pay113 (F := Ideal) x0 x1
    = st 1 7 (st 2 7 (st 3 7 (st 4 7 (st 5 7 (st 6 7 (st 0 6 (st 1 6 (k0_pay106 (F := Ideal) x0 x1)))))))) := rfl

theorem k0_pay119_eq : k0_pay119 (F := Ideal) x0 x1
    = st 1 8 (st 2 8 (st 3 8 (st 4 8 (st 5 8 (st 6 8 (st 7 8 (st 0 7 (k0_pay113 (F := Ideal) x0 x1)))))))) := rfl

theorem k0_pay120_eq : k0_pay120 (F := Ideal) x0 x1
    = st 5 9 (st 6 9 (st 7 9 (st 8 9 (st 0 8 (k0_pay119 (F := Ideal) x0 x1))))) := rfl

theorem k0_pay127_eq : k0_pay127 (F := Ideal) x0 x1
    = st 0 9 (st 1 9 (st 2 9 (st 3 9 (st 4 9 (k0_pay120 (F := Ideal) x0 x1))))) := rfl

/-- Stage `s` of the network's level `l`. -/
abbrev sg (s l : Nat) : SortNet.Network (2 ^ 9) := SortNet.stage 9 s fun i => decide (i.val &&& 2 ^ l = 0) == false

/-- The network as the list of its stages. -/
theorem sortNet_list : SortNet.sortNet 9 false = sg 0 1 ++ sg 1 2 ++ sg 0 2 ++ sg 2 3 ++ sg 1 3 ++ sg 0 3 ++ sg 3 4 ++ sg 2 4 ++ sg 1 4 ++ sg 0 4 ++ sg 4 5 ++ sg 3 5 ++ sg 2 5 ++ sg 1 5 ++ sg 0 5 ++ sg 5 6 ++ sg 4 6 ++ sg 3 6 ++ sg 2 6 ++ sg 1 6 ++ sg 0 6 ++ sg 6 7 ++ sg 5 7 ++ sg 4 7 ++ sg 3 7 ++ sg 2 7 ++ sg 1 7 ++ sg 0 7 ++ sg 7 8 ++ sg 6 8 ++ sg 5 8 ++ sg 4 8 ++ sg 3 8 ++ sg 2 8 ++ sg 1 8 ++ sg 0 8 ++ sg 8 9 ++ sg 7 9 ++ sg 6 9 ++ sg 5 9 ++ sg 4 9 ++ sg 3 9 ++ sg 2 9 ++ sg 1 9 ++ sg 0 9 := by
  unfold SortNet.sortNet
  simp only [List.range, List.range.loop, List.reverse_cons, List.reverse_nil, List.nil_append, List.flatMap_cons, List.flatMap_nil,
    List.cons_append, List.append_nil, List.append_assoc, Nat.zero_add, Nat.reduceAdd, sg]

/-- The last stage's rows are the network's output on the rows of the distances. -/
theorem srt_row (r : Fin 512) : row (k0_pay127 (F := Ideal) x0 x1) r
    = (SortNet.sortNet 9 false).apply (row (k0_pay87 (F := Ideal) x0 x1) r) := by
  rw [sortNet_list]
  simp only [SortNet.Network.apply_append]
  rw [k0_pay127_eq, k0_pay120_eq, k0_pay119_eq, k0_pay113_eq, k0_pay106_eq, k0_pay100_eq, k0_pay93_eq, k0_pay88_eq]
  simp (discharger := decide) only [st_row]
  rfl

/-- Two ascending rows, one a rearrangement of the other: the one is nowhere above the other. -/
theorem le_of_rearranged {n : Nat} (g h : Fin n → EReal) (σ : Equiv.Perm (Fin n)) (e : g = h ∘ σ) (hg : Monotone g)
    (hh : Monotone h) (c : Fin n) : g c ≤ h c := by
  by_contra hlt
  rw [not_le] at hlt
  have hmap : ∀ i ∈ Finset.Ici c, σ i ∈ Finset.Ioi c := fun i hi => by
    rw [Finset.mem_Ici] at hi
    rw [Finset.mem_Ioi]
    by_contra hle
    have h1 : h (σ i) ≤ h c := hh (not_lt.mp hle)
    have h2 : g c ≤ h (σ i) := by rw [show h (σ i) = g i from (congrFun e i).symm]; exact hg hi
    exact absurd (hlt.trans_le (h2.trans h1)) (lt_irrefl _)
  have hcard := Finset.card_le_card_of_injOn σ hmap (σ.injective.injOn)
  have hss : Finset.Ioi c ⊂ Finset.Ici c := by
    rw [Finset.ssubset_iff_of_subset (fun x hx => Finset.mem_Ici.mpr (le_of_lt (Finset.mem_Ioi.mp hx)))]
    exact ⟨c, Finset.mem_Ici.mpr le_rfl, fun hc => lt_irrefl _ (Finset.mem_Ioi.mp hc)⟩
  exact absurd (Finset.card_lt_card hss) (not_lt.mpr hcard)

/-- A row in ascending order: what the network makes of it. -/
def sorted (f : Fin 512 → EReal) : Fin 512 → EReal := (SortNet.sortNet 9 false).apply (n := 2 ^ 9) f

theorem sorted_monotone (f : Fin 512 → EReal) : Monotone (sorted f) := SortNet.sortNet_apply_monotone 9 f

theorem sorted_perm (f : Fin 512 → EReal) : ∃ σ : Equiv.Perm (Fin 512), sorted f = f ∘ σ :=
  SortNet.Network.exists_perm (SortNet.sortNet 9 false) (n := 2 ^ 9) f

/-- Every ascending rearrangement of a row is that one. -/
theorem sorted_unique (f g : Fin 512 → EReal) (σ : Equiv.Perm (Fin 512)) (h : g = f ∘ σ) (hg : Monotone g) :
    g = sorted f := by
  obtain ⟨τ, hτ⟩ := sorted_perm f
  have e1 : g = sorted f ∘ (σ.trans τ.symm) := by
    rw [h, hτ]; funext x
    simp only [Function.comp_apply, Equiv.coe_trans, Equiv.apply_symm_apply]
  have e2 : sorted f = g ∘ (τ.trans σ.symm) := by
    rw [h, hτ]; funext x
    simp only [Function.comp_apply, Equiv.coe_trans, Equiv.apply_symm_apply]
  funext c
  exact le_antisymm (le_of_rearranged _ _ _ e1 hg (sorted_monotone f) c) (le_of_rearranged _ _ _ e2 (sorted_monotone f) hg c)

/-- The network's output at row `r` is the row of the distances, sorted. -/
theorem srt_eq (r c : Fin 512) : k0_pay127 (F := Ideal) x0 x1 (ix2 r c)
    = sorted (fun j => k0_pay87 (F := Ideal) x0 x1 (ix2 r j)) c := by
  exact congrFun (srt_row x0 x1 r) c

end Cert.Srt
end
-- ==== Proof.MaskVal.lean ====
module

public import Idealize.ShloMosaic.Lib.Pointwise
public import proofs.«01_k».proof.Proof.NetPay

@[expose] public section

set_option maxRecDepth 65536

noncomputable section

/-! What the mask kernel stores, read pointwise: the bands between the row's quantiles, and the columns of low mean. -/

namespace Cert.Msk

open Idealize.ShloMosaic Cert.KernelIdeal Cert.KernelIdeal.Gen
open Cert.Srt (sorted)

/-- A quantile: the linear interpolation between two neighbours of the sorted row. -/
def thr (s : Fin 512 → EReal) (i j : Fin 512) (l h : BitVec 32) : EReal :=
  s i * Ideal.ofBits FTy.f32 l + s j * Ideal.ofBits FTy.f32 h

/-- A distance between two quantiles. -/
def band (d lo hi : EReal) : BitVec 1 := IntOp.andi (BitVec.ofBool (decide (lo ≤ d))) (BitVec.ofBool (decide (d ≤ hi)))

/-- Whether a query row sees a key row: by their distance `d` among the row's sorted distances `s`, or by the key
    row's mean `q`. -/
def maskBit (d : EReal) (s : Fin 512 → EReal) (q : EReal) : BitVec 1 :=
  IntOp.ori (IntOp.ori (IntOp.ori (IntOp.ori (IntOp.ori (IntOp.ori (IntOp.ori (IntOp.ori (IntOp.ori (IntOp.ori (BitVec.ofBool (decide (d ≤ (thr s 5 6 1063507728#32 1038174080#32))))
    (band d (thr s 51 52 1063675456#32 1036832256#32) (thr s 56 57 1061830016#32 1045891584#32)))
    (band d (thr s 102 103 1061997696#32 1045220864#32) (thr s 107 108 1060152320#32 1050589184#32)))
    (band d (thr s 153 154 1060320000#32 1050253824#32) (thr s 158 159 1058474496#32 1053944832#32)))
    (band d (thr s 204 205 1058642176#32 1053609472#32) (thr s 209 210 1056629248#32 1057132288#32)))
    (band d (thr s 255 256 1056964608#32 1056964608#32) (thr s 260 261 1053274112#32 1058809856#32)))
    (band d (thr s 306 307 1053608960#32 1058642432#32) (thr s 311 312 1049917440#32 1060488192#32)))
    (band d (thr s 357 358 1050254336#32 1060319744#32) (thr s 362 363 1044549632#32 1062165504#32)))
    (band d (thr s 408 409 1045219328#32 1061998080#32) (thr s 413 414 1035489280#32 1063843328#32)))
    (band d (thr s 459 460 1036832768#32 1063675392#32) (thr s 465 466 1065185280#32 1008992256#32)))
    (BitVec.ofBool (decide (q ≤ Ideal.ofBits FTy.f32 3194449963#32)))

/-- The sum of the twelve absolute differences. -/
def dist12 (a b : Fin 12 → EReal) : EReal :=
  ∑ k, FloatOps.absf (F := Ideal) (φ := .f32) (a k - b k)

variable (x0 : Vec Ideal S1x512x128 .f32) (x1 : Vec Ideal S1x128x512 .f32)

theorem hz3 : (![0, 0, 0] : Fin 3 → Nat) = fun _ => 0 := by decide

theorem dist_val (r c : Fin 512) : k0_pay87 (F := Ideal) x0 x1 (ix2 r c)
    = dist12 (fun k => x0 (ix3 0 r (k.castLE (by decide)))) (fun k => x1 (ix3 0 (k.castLE (by decide)) c)) := by
  unfold k0_pay87 k0_pay82 k0_pay83 k0_pay84 k0_pay85
  rw [View.ld_unit_zero hz3, View.ld_unit_zero hz3]
  unfold k0_pay6 k0_pay4 k0_pay5 k0_pay2 k0_pay3
  pointwise
  unfold dist12
  simp only [Fin.sum_univ_castSucc, Fin.sum_univ_zero, zero_add]
  rfl

theorem pay1_val (a : FVec Ideal S128x512 .f32) (b : IVec S512x512 1) (r c : Fin 512) :
    k0_pay1 (F := Ideal) a b (ix3 0 r c) = FloatOps.sitofp (F := Ideal) FTy.f32 (BitVec.setWidth 32
      (IntOp.ori (b (ix2 r c)) (BitVec.ofBool (decide
        (Ideal.div (∑ x, a (ix2 x c)) (Ideal.ofBits FTy.f32 1094713344#32) ≤ Ideal.ofBits FTy.f32 3194449963#32))))) := by
  unfold k0_pay1
  pointwise

theorem pay74_eq : k0_pay74 (F := Ideal) (k0_pay86 x0 x1) (k0_pay123 x0 x1) (k0_pay124 x0 x1) (k0_pay125 x0 x1)
      (k0_pay126 x0 x1) 0#32
    = fun p => thr (fun j => k0_pay127 (F := Ideal) x0 x1 (ix2 (p 0) j)) 5 6 1063507728#32 1038174080#32 := by
  have h : k0_pay73 (F := Ideal) (k0_pay86 x0 x1) (k0_pay123 x0 x1) (k0_pay124 x0 x1) (k0_pay125 x0 x1)
      (k0_pay126 x0 x1) 0#32 = k0_pay127 (F := Ideal) x0 x1 := rfl
  unfold k0_pay74
  rw [h]
  generalize k0_pay127 (F := Ideal) x0 x1 = s
  funext p
  obtain ⟨r, c, rfl⟩ : ∃ r c, p = ix2 r c := ⟨p 0, p 1, by funext i; fin_cases i <;> rfl⟩
  pointwise
  rfl

/-- The mask the kernel stores at row `r`, column `c`. -/
theorem mask_val (r c : Fin 512) : out0_2 (F := Ideal) x0 x1 (ix3 0 r c)
    = FloatOps.sitofp (F := Ideal) FTy.f32 (BitVec.setWidth 32
        (maskBit (k0_pay87 (F := Ideal) x0 x1 (ix2 r c)) (sorted fun j => k0_pay87 (F := Ideal) x0 x1 (ix2 r j))
          (Ideal.div (∑ x : Fin 128, x1 (ix3 0 x c)) (Ideal.ofBits FTy.f32 1094713344#32)))) := by
  have hs : (sorted fun j => k0_pay87 (F := Ideal) x0 x1 (ix2 r j)) = fun j => k0_pay127 (F := Ideal) x0 x1 (ix2 r j) :=
    funext fun j => (Srt.srt_eq x0 x1 r j).symm
  rw [hs]
  unfold out0_2
  rw [View.canon_unit_zero hz3, pay1_val, pay74_eq]
  generalize k0_pay127 (F := Ideal) x0 x1 = s
  generalize k0_pay87 (F := Ideal) x0 x1 = d
  have h3 : ∀ x, k0_pay83 (F := Ideal) x0 x1 (ix2 x c) = x1 (ix3 0 x c) := fun x => by
    unfold k0_pay83
    rw [View.ld_unit_zero hz3]
    unfold k0_pay3
    pointwise
  simp only [h3]
  unfold k0_pay81 k0_pay80 k0_pay79 k0_pay78 k0_pay77 k0_pay76 k0_pay75
  pointwise
  rfl

end Cert.Msk
end
-- ==== Proof.AttnVal.lean ====
module

public import Idealize.ShloMosaic.Lib.Pointwise
public import proofs.«01_k».proof.Proof.Gen.KernelIdeal.Frame

@[expose] public section

set_option maxRecDepth 65536

noncomputable section

/-! What the attention kernel stores, read pointwise: three projections, eight heads of masked exponentials, and the
    output projection. -/

namespace Cert.Att

open Idealize.ShloMosaic Cert.KernelIdeal Cert.KernelIdeal.Gen

theorem hz2 : (![0, 0] : Fin 2 → Nat) = fun _ => 0 := by decide
theorem hz3 : (![0, 0, 0] : Fin 3 → Nat) = fun _ => 0 := by decide
theorem hz4 : (![0, 0, 0, 0] : Fin 4 → Nat) = fun _ => 0 := by decide

/-- Feature `t` of the head that feature `e` lies in. -/
def hd (e : Fin 128) (t : Fin 16) : Fin 128 := ⟨16 * (e.val / 16) + t.val, by omega⟩

theorem hd_of (h : Nat) (d t : Fin 16) (p : 16 * h + d.val < 128) (p' : 16 * h + t.val < 128) :
    hd ⟨16 * h + d.val, p⟩ t = ⟨16 * h + t.val, p'⟩ := by
  apply Fin.ext
  show 16 * ((16 * h + d.val) / 16) + t.val = 16 * h + t.val
  omega

/-- The logits' sum for query features `q` and key features `k`, at the head of feature `e`. -/
def logit (q k : Fin 128 → EReal) (e : Fin 128) : EReal := ∑ t : Fin 16, q (hd e t) * k (hd e t)

/-- One feature of the attention for one query row: `q` its features, `k`, `v` the key and value rows, `μ` its mask. -/
def headOut (q : Fin 128 → EReal) (k v : Fin 512 → Fin 128 → EReal) (μ : Fin 512 → EReal) (e : Fin 128) : EReal :=
  Ideal.div (∑ j, Ideal.exp (logit q (k j) e) * μ j * v j e) (∑ j, Ideal.exp (logit q (k j) e) * μ j)

/-- A projection: one row times a matrix, plus a bias. -/
def proj (x : Fin 128 → EReal) (w : Fin 128 → Fin 128 → EReal) (b : Fin 128 → EReal) (e : Fin 128) : EReal :=
  ∑ i, x i * w i e + b e

theorem pay3_val (x : Vec Ideal S1x1x512x128 .f32) (w : Vec Ideal S128x128 .f32) (b : Vec Ideal S1x128 .f32)
    (r : Fin 512) (e : Fin 128) : k1_pay3 (F := Ideal) x w b (ix2 r e)
      = proj (fun i => x (ix4 0 0 r i)) (fun i e => w (ix2 i e)) (fun e => b (ix2 0 e)) e := by
  unfold k1_pay3
  pointwise
  rfl

theorem pay4_val (x : Vec Ideal S1x1x512x128 .f32) (w : Vec Ideal S128x128 .f32) (b : Vec Ideal S1x128 .f32)
    (r : Fin 512) (e : Fin 128) : k1_pay4 (F := Ideal) x w b (ix2 r e)
      = proj (fun i => x (ix4 0 0 r i)) (fun i e => w (ix2 i e)) (fun e => b (ix2 0 e)) e := by
  unfold k1_pay4
  pointwise
  rfl

theorem pay6_val (x : Vec Ideal S1x1x512x128 .f32) (w : Vec Ideal S128x128 .f32) (b : Vec Ideal S1x128 .f32)
    (r : Fin 512) (e : Fin 128) : k1_pay6 (F := Ideal) (k1_pay5 (F := Ideal) x w) b (ix2 r e)
      = proj (fun i => x (ix4 0 0 r i)) (fun i e => w (ix2 i e)) (fun e => b (ix2 0 e)) e := by
  unfold k1_pay6 k1_pay5
  pointwise
  rfl

section heads
variable (m : FVec Ideal S512x512 .f32) (q k v : FVec Ideal S512x128 .bf16) (y : FVec Ideal S512x128 .f32)
  (b : Vec Ideal S1x128 .f32) (r : Fin 512)

/-- `headOut` of the kernel's own arrays. -/
def ho (e : Fin 128) : EReal :=
  headOut (fun e => q (ix2 r e)) (fun j e => k (ix2 j e)) (fun j e => v (ix2 j e)) (fun j => m (ix2 r j)) e

theorem ho_of (h : Nat) (d : Fin 16) (p : ∀ t : Fin 16, 16 * h + t.val < 128) :
    ho m q k v r ⟨16 * h + d.val, p d⟩
      = Ideal.div (∑ j, Ideal.exp (∑ t, q (ix2 r ⟨16 * h + t.val, p t⟩) * k (ix2 j ⟨16 * h + t.val, p t⟩)) * m (ix2 r j)
          * v (ix2 j ⟨16 * h + d.val, p d⟩))
        (∑ j, Ideal.exp (∑ t, q (ix2 r ⟨16 * h + t.val, p t⟩) * k (ix2 j ⟨16 * h + t.val, p t⟩)) * m (ix2 r j)) := by
  unfold ho headOut logit
  simp only [hd_of _ _ _ (p _) (p _)]

theorem head0_val (d : Fin 16) : k1_pay7 (F := Ideal) m q k y b (ix2 r d)
    = ho m q k (k1_pay6 (F := Ideal) y b) r ⟨16 * 0 + d.val, by omega⟩ := by
  rw [ho_of m q k _ r 0 d (fun t => by omega)]
  unfold k1_pay7 k1_pay6
  pointwise
  try (first | rfl | simp only [Nat.mul_zero, Nat.zero_add] | skip)

theorem head1_val (d : Fin 16) : k1_pay8 (F := Ideal) m q k y b (ix2 r d)
    = ho m q k (k1_pay6 (F := Ideal) y b) r ⟨16 * 1 + d.val, by omega⟩ := by
  rw [ho_of m q k _ r 1 d (fun t => by omega)]
  unfold k1_pay8 k1_pay6
  pointwise
  try (first | rfl | simp only [Nat.mul_zero, Nat.zero_add] | skip)

theorem head2_val (d : Fin 16) : k1_pay9 (F := Ideal) m q k y b (ix2 r d)
    = ho m q k (k1_pay6 (F := Ideal) y b) r ⟨16 * 2 + d.val, by omega⟩ := by
  rw [ho_of m q k _ r 2 d (fun t => by omega)]
  unfold k1_pay9 k1_pay6
  pointwise
  try (first | rfl | simp only [Nat.mul_zero, Nat.zero_add] | skip)

theorem head4_val (d : Fin 16) : k1_pay15 (F := Ideal) m q k v (ix2 r d)
    = ho m q k v r ⟨16 * 4 + d.val, by omega⟩ := by
  rw [ho_of m q k _ r 4 d (fun t => by omega)]
  unfold k1_pay15
  pointwise
  try rfl

theorem head5_val (d : Fin 16) : k1_pay16 (F := Ideal) m q k v (ix2 r d)
    = ho m q k v r ⟨16 * 5 + d.val, by omega⟩ := by
  rw [ho_of m q k _ r 5 d (fun t => by omega)]
  unfold k1_pay16
  pointwise
  try rfl

theorem head6_val (d : Fin 16) : k1_pay17 (F := Ideal) m q k v (ix2 r d)
    = ho m q k v r ⟨16 * 6 + d.val, by omega⟩ := by
  rw [ho_of m q k _ r 6 d (fun t => by omega)]
  unfold k1_pay17
  pointwise
  try rfl

theorem head3_val (d : Fin 16) :
    k1_pay14 (F := Ideal) (k1_pay11 m q k) (k1_pay12 m q k) (k1_pay13 y b) (ix2 r d)
      = ho m q k (k1_pay6 (F := Ideal) y b) r ⟨16 * 3 + d.val, by omega⟩ := by
  rw [ho_of m q k _ r 3 d (fun t => by omega)]
  unfold k1_pay14 k1_pay13 k1_pay12 k1_pay11 k1_pay10 k1_pay6
  pointwise
  try rfl

theorem head7_val (d : Fin 16) :
    Ideal.div (∑ x, k1_pay20 (F := Ideal) m q k (ix2 r x) * k1_pay21 (F := Ideal) v (ix2 x d)) (k1_pay19 (F := Ideal) m q k (ix2 r 0))
      = ho m q k v r ⟨16 * 7 + d.val, by omega⟩ := by
  rw [ho_of m q k _ r 7 d (fun t => by omega)]
  unfold k1_pay20 k1_pay21 k1_pay19 k1_pay18
  pointwise
  try rfl

end heads

theorem pay1_val (o0 o1 o2 o3 o4 o5 o6 : FVec Ideal S512x16 .f32) (a : FVec Ideal S512x1 .f32)
    (b : FVec Ideal S512x512 .bf16) (c : FVec Ideal S512x16 .bf16) (w : Vec Ideal S128x128 .f32)
    (z : Vec Ideal S1x128 .f32) (r : Fin 512) (f : Fin 128) (G : Fin 128 → EReal)
    (h0 : ∀ d : Fin 16, o0 (ix2 r d) = G ⟨16 * 0 + d.val, by omega⟩)
    (h1 : ∀ d : Fin 16, o1 (ix2 r d) = G ⟨16 * 1 + d.val, by omega⟩)
    (h2 : ∀ d : Fin 16, o2 (ix2 r d) = G ⟨16 * 2 + d.val, by omega⟩)
    (h3 : ∀ d : Fin 16, o3 (ix2 r d) = G ⟨16 * 3 + d.val, by omega⟩)
    (h4 : ∀ d : Fin 16, o4 (ix2 r d) = G ⟨16 * 4 + d.val, by omega⟩)
    (h5 : ∀ d : Fin 16, o5 (ix2 r d) = G ⟨16 * 5 + d.val, by omega⟩)
    (h6 : ∀ d : Fin 16, o6 (ix2 r d) = G ⟨16 * 6 + d.val, by omega⟩)
    (h7 : ∀ d : Fin 16, Ideal.div (∑ x, b (ix2 r x) * c (ix2 x d)) (a (ix2 r 0)) = G ⟨16 * 7 + d.val, by omega⟩) :
    k1_pay1 (F := Ideal) o0 o1 o2 o3 o4 o5 o6 a b c w z (ix4 0 0 r f)
      = proj G (fun i e => w (ix2 i e)) (fun e => z (ix2 0 e)) f := by
  unfold k1_pay1
  pointwise
  unfold proj
  congr 1
  refine Finset.sum_congr rfl fun x _ => ?_
  congr 1
  simp only [h0, h1, h2, h3, h4, h5, h6, h7]
  split_ifs <;> exact congrArg G (Fin.ext (by dsimp only; omega))

variable (x0 x1 x2 : Vec Ideal S1x1x512x128 .f32) (x3 : Vec Ideal S1x512x512 .f32) (x4 : Vec Ideal S128x128 .f32)
  (x5 : Vec Ideal S1x128 .f32) (x6 : Vec Ideal S128x128 .f32) (x7 : Vec Ideal S1x128 .f32) (x8 : Vec Ideal S128x128 .f32)
  (x9 : Vec Ideal S1x128 .f32) (x10 : Vec Ideal S128x128 .f32) (x11 : Vec Ideal S1x128 .f32)

/-- What the kernel stores at row `r`, feature `f`. -/
theorem attn_val (r : Fin 512) (f : Fin 128) :
    out1_12 (F := Ideal) x0 x1 x2 x3 x4 x5 x6 x7 x8 x9 x10 x11 (ix4 0 0 r f)
      = proj (headOut
            (proj (fun i => x0 (ix4 0 0 r i)) (fun i e => x4 (ix2 i e)) (fun e => x5 (ix2 0 e)))
            (fun j => proj (fun i => x1 (ix4 0 0 j i)) (fun i e => x6 (ix2 i e)) (fun e => x7 (ix2 0 e)))
            (fun j => proj (fun i => x2 (ix4 0 0 j i)) (fun i e => x8 (ix2 i e)) (fun e => x9 (ix2 0 e)))
            (fun j => x3 (ix3 0 r j)))
          (fun i e => x10 (ix2 i e)) (fun e => x11 (ix2 0 e)) f := by
  unfold_out out1_12
  rw [View.canon_unit_zero hz4]
  have e1 : ∀ x : Vec Ideal S1x1x512x128 .f32, View.ld x r1_1 = x := fun x => View.ld_unit_zero hz4 _ x
  have e0 : ∀ x : Vec Ideal S1x512x512 .f32, View.ld x r1_0 = x := fun x => View.ld_unit_zero hz3 _ x
  have e2 : ∀ x : Vec Ideal S128x128 .f32, View.ld x r1_2 = x := fun x => View.ld_unit_zero hz2 _ x
  have e3 : ∀ x : Vec Ideal S1x128 .f32, View.ld x r1_3 = x := fun x => View.ld_unit_zero hz2 _ x
  simp only [e0, e1, e2, e3]
  have hm : ∀ r j, k1_pay2 (F := Ideal) x3 (ix2 r j) = x3 (ix3 0 r j) := fun r j => by
    unfold k1_pay2
    pointwise
  have hho : ∀ e, ho (k1_pay2 (F := Ideal) x3) (k1_pay3 (F := Ideal) x0 x4 x5) (k1_pay4 (F := Ideal) x1 x6 x7)
      (k1_pay6 (F := Ideal) (k1_pay5 (F := Ideal) x2 x8) x9) r e = headOut
            (proj (fun i => x0 (ix4 0 0 r i)) (fun i e => x4 (ix2 i e)) (fun e => x5 (ix2 0 e)))
            (fun j => proj (fun i => x1 (ix4 0 0 j i)) (fun i e => x6 (ix2 i e)) (fun e => x7 (ix2 0 e)))
            (fun j => proj (fun i => x2 (ix4 0 0 j i)) (fun i e => x8 (ix2 i e)) (fun e => x9 (ix2 0 e)))
            (fun j => x3 (ix3 0 r j)) e := fun e => by
    unfold ho
    simp only [hm, pay3_val, pay4_val, pay6_val]
  rw [← funext hho]
  exact pay1_val _ _ _ _ _ _ _ _ _ _ _ _ r f _ (head0_val _ _ _ _ _ r) (head1_val _ _ _ _ _ r) (head2_val _ _ _ _ _ r)
    (head3_val _ _ _ _ _ r) (head4_val _ _ _ _ r) (head5_val _ _ _ _ r) (head6_val _ _ _ _ r) (head7_val _ _ _ _ r)

end Cert.Att
end
-- ==== Proof.SortRef.lean ====
module

public import Idealize.ShloMosaic.Lib.Pointwise
public import Idealize.ShloMosaic.Lib.SortFacts
public import proofs.«01_k».proof.Proof.NetPay
public import proofs.«01_k».proof.Proof.Gen.ReferenceIdeal.Run

@[expose] public section

noncomputable section

/-! A row of the reference's sorted distances is the sorted row that the kernel's network leaves. -/

namespace Cert.SortRef

open Idealize.ShloMosaic Cert.ReferenceIdeal

/-- Over the extended reals the comparator is the strict order. -/
theorem cmp_eq (x y : EReal) : comparator_f32_d2 (F := Ideal) x y = BitVec.ofBool (decide (x < y)) := by
  have h0 : Ideal.ofBits FTy.f32 0x00000000#32 = (0 : EReal) := Ideal.ofBits_zero FTy.f32
  have hs : ∀ z : EReal, Scalar.select (FloatOps.cmpf (F := Ideal) (φ := .f32) .oeq z (FloatOps.ofBits .f32 0x00000000#32))
      (FloatOps.ofBits (F := Ideal) .f32 0x00000000#32) z = z := by
    intro z
    by_cases h : z = 0
    · subst h
      unfold Scalar.select
      split
      · exact h0
      · rfl
    · unfold Scalar.select
      rw [if_neg]
      show ¬ (BitVec.ofBool (decide (z = Ideal.ofBits FTy.f32 0x00000000#32)) = 1#1)
      rw [h0]
      simp [h]
  have hn : ∀ (z w : EReal), Scalar.select (FloatOps.cmpf (F := Ideal) (φ := .f32) .une z z) w z = z := by
    intro z w
    unfold Scalar.select
    rw [if_neg]
    show ¬ (BitVec.ofBool (decide (z ≠ z)) = 1#1)
    simp
  unfold comparator_f32_d2
  simp only [hs, hn]
  rfl

/-- The row read through the stable sort's positions ascends. -/
theorem mono_of (f : Fin 512 → EReal) (R : Fin 512 → Fin 512 → Bool) (hR : ∀ k k', R k k' = decide (f k < f k')) :
    Monotone (fun j => f (sortedFrom R j)) := by
  intro i j hij
  rcases eq_or_lt_of_le hij with rfl | hlt
  · exact le_refl _
  have h2 := sortedFrom_noInversion R R (fun a c h => by
      rw [hR] at h ⊢
      simpa using le_of_lt (of_decide_eq_true h)) (fun _ _ h => h)
    (fun a c e h h' => by
      rw [hR] at h h' ⊢
      simp only [decide_eq_false_iff_not, not_lt] at h h' ⊢
      exact le_trans h' h) i j hlt
  rw [hR] at h2
  simpa using h2

/-- A rearrangement that ascends is the sorted row. -/
theorem sorted_of_bij (f : Fin 512 → EReal) (g : Fin 512 → Fin 512) (hb : Function.Bijective g)
    (hm : Monotone (fun j => f (g j))) (j : Fin 512) : f (g j) = Cert.Srt.sorted f j :=
  congrFun (Cert.Srt.sorted_unique f (fun j => f (g j)) (Equiv.ofBijective g hb) rfl hm) j

/-- The row read through the stable sort's positions is the sorted row. -/
theorem sorted_of (f : Fin 512 → EReal) (R : Fin 512 → Fin 512 → Bool) (hR : ∀ k k', R k k' = decide (f k < f k')) (j : Fin 512) :
    f (sortedFrom R j) = Cert.Srt.sorted f j :=
  sorted_of_bij f (sortedFrom R) ⟨sortedFrom_injective R, sortedFrom_surjective R⟩ (mono_of f R hR) j

theorem two_lt : 2 < S2x512x512.rank := by decide

theorem along_eq (b : Fin 2) (r j k : Fin 512) :
    Shape.Idx.along (s := S2x512x512) (ix3 b r j) ⟨2, two_lt⟩ k = ix3 b r k := by
  funext a
  fin_cases a <;> rfl

/-- The last coordinate of an index, at the axis as the sort names it. -/
theorem last_eq (b : Fin 2) (r j : Fin 512) : (ix3 b r j : S2x512x512.Idx) ⟨2, two_lt⟩ = j := rfl

theorem sort_row (x : FVec Ideal S2x512x512 .f32) (b : Fin 2) (r j : Fin 512) :
    Host.sort S2x512x512 2 (comparator_f32_d2 (F := Ideal)) x (ix3 b r j)
      = Cert.Srt.sorted (fun k => x (ix3 b r k)) j := by
  unfold Host.sort
  rw [dif_pos two_lt]
  have e : (fun k k' : Fin 512 => comparator_f32_d2 (F := Ideal) (x (Shape.Idx.along (s := S2x512x512) (ix3 b r j) ⟨2, two_lt⟩ k))
        (x (Shape.Idx.along (s := S2x512x512) (ix3 b r j) ⟨2, two_lt⟩ k')) == 1#1)
      = fun k k' : Fin 512 => decide ((x (ix3 b r k) : EReal) < x (ix3 b r k')) := by
    funext k k'
    rw [along_eq b r j k, along_eq b r j k', cmp_eq]
    by_cases h : (x (ix3 b r k) : EReal) < x (ix3 b r k') <;> simp [h]
  refine (congrArg x (along_eq b r j _)).trans ?_
  refine (congrArg (fun R' : Fin 512 → Fin 512 → Bool => x (ix3 b r (sortedFrom R' j))) e).trans ?_
  exact sorted_of (fun k => x (ix3 b r k)) _ (fun _ _ => rfl) j

end Cert.SortRef
end
-- ==== Proof.RefProj.lean ====
module

public import Idealize.ShloMosaic.Lib.Pointwise
public import proofs.«01_k».proof.Proof.AttnVal
public import proofs.«01_k».proof.Proof.MaskVal
public import proofs.«01_k».proof.Proof.SortRef
public import proofs.«01_k».proof.Proof.Gen.ReferenceIdeal.Run

@[expose] public section

set_option maxRecDepth 65536

noncomputable section

/-! The reference's projections, distances and sorted distances, at an index. -/

namespace Cert.Ref

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

/-! The arguments, as arrays. -/

abbrev rQ : Vec Ideal S2x12x512x128 .f32 := V0 (Proc.devRef .tc main_arg0)
abbrev rK : Vec Ideal S2x12x512x128 .f32 := V0 (Proc.devRef .tc main_arg1)
abbrev rV : Vec Ideal S2x12x512x128 .f32 := V0 (Proc.devRef .tc main_arg2)
abbrev rX : Vec Ideal S2x512x12 .f32 := V0 (Proc.devRef .tc main_arg3)
abbrev rWq : Vec Ideal S128x128 .f32 := V0 (Proc.devRef .tc main_arg5)
abbrev rbq : Vec Ideal S128 .f32 := V0 (Proc.devRef .tc main_arg6)
abbrev rWk : Vec Ideal S128x128 .f32 := V0 (Proc.devRef .tc main_arg7)
abbrev rbk : Vec Ideal S128 .f32 := V0 (Proc.devRef .tc main_arg8)
abbrev rWv : Vec Ideal S128x128 .f32 := V0 (Proc.devRef .tc main_arg9)
abbrev rbv : Vec Ideal S128 .f32 := V0 (Proc.devRef .tc main_arg10)
abbrev rWo : Vec Ideal S128x128 .f32 := V0 (Proc.devRef .tc main_arg11)
abbrev rbo : Vec Ideal S128 .f32 := V0 (Proc.devRef .tc main_arg12)

/-- A projection `a @ W.T + b` at an index. -/
theorem proj_read (a : FVec Ideal S2x12x512x128 .f32) (w : FVec Ideal S128x128 .f32) (d : FVec Ideal S128 .f32)
    (b : Fin 2) (s : Fin 12) (r : Fin 512) (e : Fin 128) :
    addf (F := Ideal) (φ := .f32) (Host.dotGeneral (F := Ideal) dot_S2x12x512x128_S128x128_S2x12x512x128_3_0_012_1_n_n none a
      (transpose S128x128 [1, 0] w transposes_S128x128_S128x128_1_0))
      (broadcastInDim S2x12x512x128 ![0, 1, 2, 3] bcast_S1x1x1x128_S2x12x512x128_0_1_2_3
        (broadcastInDim S1x1x1x128 ![3] bcast_S128_S1x1x1x128_3 d)) (ix4 b s r e)
      = Cert.Att.proj (fun i => a (ix4 b s r i)) (fun i e => w (ix2 e i)) (fun e => d (ix1 e)) e := by
  unfold Cert.Att.proj
  pointwise

theorem v4_val (b : Fin 2) (s : Fin 12) (r : Fin 512) (e : Fin 128) : res_main_v4 V0 (ix4 b s r e)
    = Cert.Att.proj (fun i => rQ V0 (ix4 b s r i)) (fun i e => rWq V0 (ix2 e i)) (fun e => rbq V0 (ix1 e)) e :=
  proj_read (rQ V0) (rWq V0) (rbq V0) b s r e
theorem v9_val (b : Fin 2) (s : Fin 12) (r : Fin 512) (e : Fin 128) : res_main_v9 V0 (ix4 b s r e)
    = Cert.Att.proj (fun i => rK V0 (ix4 b s r i)) (fun i e => rWk V0 (ix2 e i)) (fun e => rbk V0 (ix1 e)) e :=
  proj_read (rK V0) (rWk V0) (rbk V0) b s r e
theorem v14_val (b : Fin 2) (s : Fin 12) (r : Fin 512) (e : Fin 128) : res_main_v14 V0 (ix4 b s r e)
    = Cert.Att.proj (fun i => rV V0 (ix4 b s r i)) (fun i e => rWv V0 (ix2 e i)) (fun e => rbv V0 (ix1 e)) e :=
  proj_read (rV V0) (rWv V0) (rbv V0) b s r e

theorem dist_read (x : FVec Ideal S2x512x12 .f32) (b : Fin 2) (r j : Fin 512) :
    Host.reduceAdd (F := Ideal) (Host.absf (F := Ideal) (φ := .f32) (subf (F := Ideal) (φ := .f32) (broadcastInDim S2x512x512x12 ![0, 1, 2, 3] bcast_S2x512x1x12_S2x512x512x12_0_1_2_3 (broadcastInDim S2x512x1x12 ![0, 1, 3] bcast_S2x512x12_S2x512x1x12_0_1_3 x)) (broadcastInDim S2x512x512x12 ![0, 1, 2, 3] bcast_S2x1x512x12_S2x512x512x12_0_1_2_3 (broadcastInDim S2x1x512x12 ![0, 2, 3] bcast_S2x512x12_S2x1x512x12_0_2_3 x)))) (constant (F := Ideal) S_ .f32 0x00000000#32) reducesTo_S2x512x512x12_S2x512x512_d3 h_S_ (ix3 b r j)
      = Cert.Msk.dist12 (fun k => x (ix3 b r k)) (fun k => x (ix3 b j k)) := by
  unfold Cert.Msk.dist12
  pointwise

theorem v51_val (b : Fin 2) (r j : Fin 512) : res_main_v51 V0 (ix3 b r j)
    = Cert.Msk.dist12 (fun k => rX V0 (ix3 b r k)) (fun k => rX V0 (ix3 b j k)) :=
  dist_read (rX V0) b r j

theorem v52_val (b : Fin 2) (r j : Fin 512) : res_main_v52 V0 (ix3 b r j)
    = Cert.Srt.sorted (fun k => (res_main_v51 V0 : FVec Ideal S2x512x512 .f32) (ix3 b r k)) j :=
  Cert.SortRef.sort_row _ b r j

end Cert.Ref
end
-- ==== Proof.RefMask.lean ====
module

public import Idealize.ShloMosaic.Lib.Pointwise
public import proofs.«01_k».proof.Proof.RefProj

@[expose] public section

set_option maxRecDepth 65536

noncomputable section

/-! The reference's mask, at an index. -/

namespace Cert.Ref

open Idealize.ShloMosaic Idealize.ShloMosaic.TcCoe Idealize.SL.Sem Idealize.ShloMosaic.StableHlo
open Cert.ReferenceIdeal Cert.ReferenceIdeal.Gen Cert.ReferenceIdeal.Value

open Cert.Msk

variable (V0 : Valuation τ sig (Elt Ideal))

/-- The distances and the sorted distances. -/
abbrev d51 : S2x512x512.Idx → EReal := res_main_v51 V0
abbrev d52 : S2x512x512.Idx → EReal := res_main_v52 V0

/-- The level of one quantile, read at a row: the two neighbours among the sorted distances, weighted. -/
theorem thr_read (s : FVec Ideal S2x512x512 .f32) (i i' : Nat) (l h : BitVec 32) (hl : i < 512) (hl' : i' < 512)
    (hi : S2x512x512.Slices ![0, 0, i] S2x512x1) (hi' : S2x512x512.Slices ![0, 0, i'] S2x512x1)
    (b : Fin 2) (r j : Fin 512) :
    broadcastInDim S2x512x512 ![0, 1, 2] bcast_S2x512x1_S2x512x512_0_1_2 (broadcastInDim S2x512x1 ![0, 1] bcast_S2x512_S2x512x1_0_1
      (addf (F := Ideal) (φ := .f32)
        (mulf (F := Ideal) (φ := .f32) (shapeCast S2x512 (extractStridedSlice S2x512x1 ![0, 0, i] s hi) shapeCasts_S2x512x1_S2x512)
          (broadcastInDim S2x512 ![] bcast_S_S2x512 (constant (F := Ideal) S_ .f32 l)))
        (mulf (F := Ideal) (φ := .f32) (shapeCast S2x512 (extractStridedSlice S2x512x1 ![0, 0, i'] s hi') shapeCasts_S2x512x1_S2x512)
          (broadcastInDim S2x512 ![] bcast_S_S2x512 (constant (F := Ideal) S_ .f32 h))))) (ix3 b r j)
      = thr (fun k => s (ix3 b r k)) ⟨i, hl⟩ ⟨i', hl'⟩ l h := by
  unfold thr
  pointwise

theorem le_read (d T : FVec Ideal S2x512x512 .f32) (i : S2x512x512.Idx) :
    cmpf (F := Ideal) (φ := .f32) .ole d T i = BitVec.ofBool (decide ((d i : EReal) ≤ T i)) := rfl

theorem band_read (d T T' : FVec Ideal S2x512x512 .f32) (i : S2x512x512.Idx) :
    andi (cmpf (F := Ideal) (φ := .f32) .oge d T) (cmpf (F := Ideal) (φ := .f32) .ole d T') i = band (d i) (T i) (T' i) := rfl

theorem or_read (x y : IVec S2x512x512 1) (i : S2x512x512.Idx) : ori x y i = IntOp.ori (x i) (y i) := rfl

theorem v262_val (b : Fin 2) (r j : Fin 512) : (res_main_v262 V0 : IVec S2x512x512 1) (ix3 b r j)
    = (IntOp.ori (IntOp.ori (IntOp.ori (BitVec.ofBool (decide (d51 V0 (ix3 b r j) ≤ (thr (fun k => d52 V0 (ix3 b r k)) 5 6 1063507728#32 1038174080#32))))
      (band (d51 V0 (ix3 b r j)) (thr (fun k => d52 V0 (ix3 b r k)) 51 52 1063675456#32 1036832256#32) (thr (fun k => d52 V0 (ix3 b r k)) 56 57 1061830016#32 1045891584#32)))
      (band (d51 V0 (ix3 b r j)) (thr (fun k => d52 V0 (ix3 b r k)) 102 103 1061997696#32 1045220864#32) (thr (fun k => d52 V0 (ix3 b r k)) 107 108 1060152320#32 1050589184#32)))
      (band (d51 V0 (ix3 b r j)) (thr (fun k => d52 V0 (ix3 b r k)) 153 154 1060320000#32 1050253824#32) (thr (fun k => d52 V0 (ix3 b r k)) 158 159 1058474496#32 1053944832#32))) := by
  unfold res_main_v262
  rw [or_read, or_read, or_read, le_read, band_read, band_read, band_read]
  rw [thr_read _ _ _ _ _ (by decide) (by decide), thr_read _ _ _ _ _ (by decide) (by decide), thr_read _ _ _ _ _ (by decide) (by decide), thr_read _ _ _ _ _ (by decide) (by decide), thr_read _ _ _ _ _ (by decide) (by decide), thr_read _ _ _ _ _ (by decide) (by decide), thr_read _ _ _ _ _ (by decide) (by decide)]
  rfl

theorem v286_val (b : Fin 2) (r j : Fin 512) : (res_main_v286 V0 : IVec S2x512x512 1) (ix3 b r j)
    = (IntOp.ori (IntOp.ori (IntOp.ori (IntOp.ori (((res_main_v262 V0 : IVec S2x512x512 1) (ix3 b r j)))
      (band (d51 V0 (ix3 b r j)) (thr (fun k => d52 V0 (ix3 b r k)) 204 205 1058642176#32 1053609472#32) (thr (fun k => d52 V0 (ix3 b r k)) 209 210 1056629248#32 1057132288#32)))
      (band (d51 V0 (ix3 b r j)) (thr (fun k => d52 V0 (ix3 b r k)) 255 256 1056964608#32 1056964608#32) (thr (fun k => d52 V0 (ix3 b r k)) 260 261 1053274112#32 1058809856#32)))
      (band (d51 V0 (ix3 b r j)) (thr (fun k => d52 V0 (ix3 b r k)) 306 307 1053608960#32 1058642432#32) (thr (fun k => d52 V0 (ix3 b r k)) 311 312 1049917440#32 1060488192#32)))
      (band (d51 V0 (ix3 b r j)) (thr (fun k => d52 V0 (ix3 b r k)) 357 358 1050254336#32 1060319744#32) (thr (fun k => d52 V0 (ix3 b r k)) 362 363 1044549632#32 1062165504#32))) := by
  unfold res_main_v286
  rw [or_read, or_read, or_read, or_read, band_read, band_read, band_read, band_read]
  rw [thr_read _ _ _ _ _ (by decide) (by decide), thr_read _ _ _ _ _ (by decide) (by decide), thr_read _ _ _ _ _ (by decide) (by decide), thr_read _ _ _ _ _ (by decide) (by decide), thr_read _ _ _ _ _ (by decide) (by decide), thr_read _ _ _ _ _ (by decide) (by decide), thr_read _ _ _ _ _ (by decide) (by decide), thr_read _ _ _ _ _ (by decide) (by decide)]
  rfl

/-- The mean of a row of the features against the threshold, spread over the query rows. -/
theorem mean_read (x : FVec Ideal S2x512x12 .f32) (b : Fin 2) (r j : Fin 512) :
    broadcastInDim S2x512x512 ![0, 1, 2] bcast_S2x1x512_S2x512x512_0_1_2 (cmpf (F := Ideal) (φ := .f32) .ole (broadcastInDim S2x1x512 ![0, 2] bcast_S2x512_S2x1x512_0_2 (Host.divf (F := Ideal) (φ := .f32) (Host.reduceAdd (F := Ideal) x (constant (F := Ideal) S_ .f32 0x00000000#32) reducesTo_S2x512x12_S2x512_d2 h_S_) (broadcastInDim S2x512 ![] bcast_S_S2x512 (constant (F := Ideal) S_ .f32 0x41400000#32)))) (broadcastInDim S2x1x512 ![] bcast_S_S2x1x512 (constant (F := Ideal) S_ .f32 0xBE67702B#32))) (ix3 b r j)
      = BitVec.ofBool (decide (Ideal.div (∑ k : Fin 12, x (ix3 b j k)) (Ideal.ofBits FTy.f32 1094713344#32) ≤ Ideal.ofBits FTy.f32 3194449963#32)) := by
  pointwise

/-- Appending no column and repeating the mask for every head and step leaves it as it was. -/
theorem tile_read (w : IVec S2x512x512 1) (z : IVec S2x512x0 1) (h : Fin 8) (b : Fin 2) (g : Fin 16) (hg : g.val = 2 * h.val + b.val)
    (s : Fin 12) (r j : Fin 512) :
    shapeCast S16x12x512x512 (broadcastInDim S8x2x12x1x1x512x1x512 ![0, 1, 2, 3, 4, 5, 6, 7] bcast_S1x2x1x1x1x512x1x512_S8x2x12x1x1x512x1x512_0_1_2_3_4_5_6_7 (shapeCast S1x2x1x1x1x512x1x512 (shapeCast S2x1x512x512 (concatenate S2x512x512 2 [⟨S2x512x512, w⟩, ⟨S2x512x0, z⟩] concatenates_S2x512x512_S2x512x0_S2x512x512_d2) shapeCasts_S2x512x512_S2x1x512x512) shapeCasts_S2x1x512x512_S1x2x1x1x1x512x1x512)) shapeCasts_S8x2x12x1x1x512x1x512_S16x12x512x512 (ix4 g s r j)
      = w (ix3 b r j) := by
  pointwise
  exact congrArg (fun b => w (ix3 b r j)) (Fin.ext (by show g.val % 2 = b.val; omega))

end Cert.Ref
end
-- ==== Proof.RefAttn.lean ====
module

public import Idealize.ShloMosaic.Lib.Pointwise
public import proofs.«01_k».proof.Proof.RefMask

@[expose] public section

set_option maxRecDepth 65536

noncomputable section

/-! The reference's attention and its result, at an index. -/

namespace Cert.Ref

open Idealize.ShloMosaic Idealize.ShloMosaic.TcCoe Idealize.SL.Sem Idealize.ShloMosaic.StableHlo
open Cert.ReferenceIdeal Cert.ReferenceIdeal.Gen Cert.ReferenceIdeal.Value

open Cert.Msk Cert.Att

variable (V0 : Valuation τ sig (Elt Ideal))

/-- Heads stacked along the batch: lane `e`'s head at batch `b` is batch `2 * (e / 16) + b` of the stack. -/
theorem stack_read (x : FVec Ideal S2x12x512x128 .f32) (e : Fin 128) (b : Fin 2) (g : Fin 16) (hg : g.val = 2 * (e.val / 16) + b.val)
    (s : Fin 12) (r : Fin 512) (t : Fin 16) :
    concatenate S16x12x512x16 0 [⟨S2x12x512x16, extractStridedSlice S2x12x512x16 ![0, 0, 0, 0] x slices_S2x12x512x128_S2x12x512x16_0_0_0_0⟩, ⟨S2x12x512x16, extractStridedSlice S2x12x512x16 ![0, 0, 0, 16] x slices_S2x12x512x128_S2x12x512x16_0_0_0_16⟩, ⟨S2x12x512x16, extractStridedSlice S2x12x512x16 ![0, 0, 0, 32] x slices_S2x12x512x128_S2x12x512x16_0_0_0_32⟩, ⟨S2x12x512x16, extractStridedSlice S2x12x512x16 ![0, 0, 0, 48] x slices_S2x12x512x128_S2x12x512x16_0_0_0_48⟩, ⟨S2x12x512x16, extractStridedSlice S2x12x512x16 ![0, 0, 0, 64] x slices_S2x12x512x128_S2x12x512x16_0_0_0_64⟩, ⟨S2x12x512x16, extractStridedSlice S2x12x512x16 ![0, 0, 0, 80] x slices_S2x12x512x128_S2x12x512x16_0_0_0_80⟩, ⟨S2x12x512x16, extractStridedSlice S2x12x512x16 ![0, 0, 0, 96] x slices_S2x12x512x128_S2x12x512x16_0_0_0_96⟩, ⟨S2x12x512x16, extractStridedSlice S2x12x512x16 ![0, 0, 0, 112] x slices_S2x12x512x128_S2x12x512x16_0_0_0_112⟩] concatenates_S2x12x512x16_S2x12x512x16_S2x12x512x16_S2x12x512x16_S2x12x512x16_S2x12x512x16_S2x12x512x16_S2x12x512x16_S16x12x512x16_d0 (ix4 g s r t)
      = x (ix4 b s r (hd e t)) := by
  have he := e.isLt
  have hb := b.isLt
  have ht := t.isLt
  pointwise
  unfold hd
  split_ifs <;> refine congrArg x (congrArg₂ (fun u v => ix4 u s r v) (Fin.ext ?_) (Fin.ext ?_)) <;> simp only [] <;> omega

/-- The stack taken apart again. -/
theorem unstack_read (x : FVec Ideal S16x12x512x16 .f32) (b : Fin 2) (s : Fin 12) (r : Fin 512) (e : Fin 128) :
    concatenate S2x12x512x128 3 [⟨S2x12x512x16, extractStridedSlice S2x12x512x16 ![0, 0, 0, 0] x slices_S16x12x512x16_S2x12x512x16_0_0_0_0⟩, ⟨S2x12x512x16, extractStridedSlice S2x12x512x16 ![2, 0, 0, 0] x slices_S16x12x512x16_S2x12x512x16_2_0_0_0⟩, ⟨S2x12x512x16, extractStridedSlice S2x12x512x16 ![4, 0, 0, 0] x slices_S16x12x512x16_S2x12x512x16_4_0_0_0⟩, ⟨S2x12x512x16, extractStridedSlice S2x12x512x16 ![6, 0, 0, 0] x slices_S16x12x512x16_S2x12x512x16_6_0_0_0⟩, ⟨S2x12x512x16, extractStridedSlice S2x12x512x16 ![8, 0, 0, 0] x slices_S16x12x512x16_S2x12x512x16_8_0_0_0⟩, ⟨S2x12x512x16, extractStridedSlice S2x12x512x16 ![10, 0, 0, 0] x slices_S16x12x512x16_S2x12x512x16_10_0_0_0⟩, ⟨S2x12x512x16, extractStridedSlice S2x12x512x16 ![12, 0, 0, 0] x slices_S16x12x512x16_S2x12x512x16_12_0_0_0⟩, ⟨S2x12x512x16, extractStridedSlice S2x12x512x16 ![14, 0, 0, 0] x slices_S16x12x512x16_S2x12x512x16_14_0_0_0⟩] concatenates_S2x12x512x16_S2x12x512x16_S2x12x512x16_S2x12x512x16_S2x12x512x16_S2x12x512x16_S2x12x512x16_S2x12x512x16_S2x12x512x128_d3 (ix4 b s r e)
      = x (ix4 ⟨2 * (e.val / 16) + b.val, by omega⟩ s r ⟨e.val % 16, by omega⟩) := by
  have he := e.isLt
  have hb := b.isLt
  pointwise
  split_ifs <;> refine congrArg x (congrArg₂ (fun u v => ix4 u s r v) (Fin.ext ?_) (Fin.ext ?_)) <;> simp only [] <;> omega

theorem logit_read (x y : FVec Ideal S16x12x512x16 .f32) (g : Fin 16) (s : Fin 12) (r j : Fin 512) :
    Host.divf (F := Ideal) (φ := .f32) (Host.dotGeneral (F := Ideal) dot_S16x12x512x16_S16x12x512x16_S16x12x512x512_3_3_2_2_01_01 none x y)
      (broadcastInDim S16x12x512x512 ![] bcast_S_S16x12x512x512 (constant (F := Ideal) S_ .f32 0x40800000#32)) (ix4 g s r j)
      = Ideal.div (∑ t : Fin 16, x (ix4 g s r t) * y (ix4 g s j t)) (Ideal.ofBits FTy.f32 0x40800000#32) := by
  pointwise

/-- A fold over the last of four axes, at an index. -/
theorem fold_read (n0 n1 n2 n3 : Nat) (u : Shape) (h : (⟨4, ![n0, n1, n2, n3]⟩ : Shape).ReducesTo [3] ⟨3, ![n0, n1, n2]⟩)
    (op : EReal → EReal → EReal) [Std.Commutative op] [Std.Associative op]
    (x : (⟨4, ![n0, n1, n2, n3]⟩ : Shape).Idx → EReal) (z : u.Idx → EReal) (hu : 0 < u.numel)
    (g : Fin n0) (s : Fin n1) (r : Fin n2) :
    Host.reduce op x z h hu (ix3 g s r) = (Finset.univ : Finset (Fin n3)).fold op (z (Shape.Idx.first hu)) (fun k => x (ix4 g s r k)) := by
  rw [Host.reduce_eq_fold, Shape.ReducesTo.fold_fiber_r4_a3]
  rfl

theorem max_read (x : FVec Ideal S16x12x512x512 .f32) (g : Fin 16) (s : Fin 12) (r : Fin 512) :
    Host.reduce (FloatOps.maximumf (F := Ideal) (φ := .f32)) x (constant (F := Ideal) S_ .f32 0xFF800000#32) reducesTo_S16x12x512x512_S16x12x512_d3 h_S_ (ix3 g s r)
      = (Finset.univ : Finset (Fin 512)).fold (FloatOps.maximumf (F := Ideal) (φ := .f32)) (Ideal.ofBits FTy.f32 4286578688#32) (fun k => x (ix4 g s r k)) :=
  fold_read _ _ _ _ _ reducesTo_S16x12x512x512_S16x12x512_d3 (FloatOps.maximumf (F := Ideal) (φ := .f32)) x _ h_S_ g s r

theorem exp_read (x : FVec Ideal S16x12x512x512 .f32) (y : FVec Ideal S16x12x512 .f32) (g : Fin 16) (s : Fin 12) (r j : Fin 512) :
    Host.exp (F := Ideal) (φ := .f32) (subf (F := Ideal) (φ := .f32) x (broadcastInDim S16x12x512x512 ![0, 1, 2, 3] bcast_S16x12x512x1_S16x12x512x512_0_1_2_3 (broadcastInDim S16x12x512x1 ![0, 1, 2] bcast_S16x12x512_S16x12x512x1_0_1_2 (maximumf (F := Ideal) (φ := .f32) (broadcastInDim S16x12x512 ![] bcast_S_S16x12x512 (constant (F := Ideal) S_ .f32 0xFF800000#32)) y)))) (ix4 g s r j)
      = Ideal.exp (x (ix4 g s r j) - max (Ideal.ofBits FTy.f32 4286578688#32) (y (ix3 g s r))) := by
  pointwise

theorem soft_read (p : FVec Ideal S16x12x512x512 .f32) (y : FVec Ideal S16x12x512x16 .f32) (g : Fin 16) (s : Fin 12) (r : Fin 512) (t : Fin 16) :
    Host.dotGeneral (F := Ideal) dot_S16x12x512x512_S16x12x512x16_S16x12x512x16_3_2_2_3_01_01 none (Host.divf (F := Ideal) (φ := .f32) p (broadcastInDim S16x12x512x512 ![0, 1, 2, 3] bcast_S16x12x512x1_S16x12x512x512_0_1_2_3 (broadcastInDim S16x12x512x1 ![0, 1, 2] bcast_S16x12x512_S16x12x512x1_0_1_2 (Host.reduceAdd (F := Ideal) p (constant (F := Ideal) S_ .f32 0x00000000#32) reducesTo_S16x12x512x512_S16x12x512_d3 h_S_)))) y (ix4 g s r t)
      = ∑ j, Ideal.div (p (ix4 g s r j)) (∑ k, p (ix4 g s r k)) * y (ix4 g s j t) := by
  pointwise

end Cert.Ref
end
-- ==== Proof.RefVal.lean ====
module

public import Idealize.ShloMosaic.Lib.Pointwise
public import proofs.«01_k».proof.Proof.RefAttn

@[expose] public section

set_option maxRecDepth 65536

noncomputable section

/-! The reference's result at an index, as masked softmax attention between projections. -/

namespace Cert.Ref

open Idealize.ShloMosaic Idealize.ShloMosaic.TcCoe Idealize.SL.Sem Idealize.ShloMosaic.StableHlo
open Cert.ReferenceIdeal Cert.ReferenceIdeal.Gen Cert.ReferenceIdeal.Value

open Cert.Msk Cert.Att

variable (V0 : Valuation τ sig (Elt Ideal))

/-- The projected queries, keys and values. -/
abbrev pQ : S2x12x512x128.Idx → EReal := res_main_v4 V0
abbrev pK : S2x12x512x128.Idx → EReal := res_main_v9 V0
abbrev pV : S2x12x512x128.Idx → EReal := res_main_v14 V0

/-- Whether query row `r` sees key row `j`. -/
def rbit (b : Fin 2) (r j : Fin 512) : BitVec 1 :=
  maskBit (d51 V0 (ix3 b r j)) (fun k => d52 V0 (ix3 b r k))
    (Ideal.div (∑ k : Fin 12, rX V0 (ix3 b j k)) (Ideal.ofBits FTy.f32 1094713344#32))

/-- The masked logits of lane `e`'s head. -/
def rlog (b : Fin 2) (s : Fin 12) (r : Fin 512) (e : Fin 128) (j : Fin 512) : EReal :=
  Scalar.select (rbit V0 b r j)
    (Ideal.div (∑ t : Fin 16, pQ V0 (ix4 b s r (hd e t)) * pK V0 (ix4 b s j (hd e t))) (Ideal.ofBits FTy.f32 0x40800000#32))
    (Ideal.ofBits FTy.f32 0xFF800000#32)

/-- What is subtracted from a row of logits. -/
def top (L : Fin 512 → EReal) : EReal :=
  max (Ideal.ofBits FTy.f32 4286578688#32)
    ((Finset.univ : Finset (Fin 512)).fold (FloatOps.maximumf (F := Ideal) (φ := .f32)) (Ideal.ofBits FTy.f32 4286578688#32) L)

/-- The values weighted by the softmax of the logits. -/
def soft (L v : Fin 512 → EReal) : EReal :=
  ∑ j, Ideal.div (Ideal.exp (L j - top L)) (∑ k, Ideal.exp (L k - top L)) * v j

theorem select_read (w : IVec S16x12x512x512 1) (x y : FVec Ideal S16x12x512x512 .f32) (i : S16x12x512x512.Idx) :
    select w x y i = Scalar.select (w i) (x i) (y i) := rfl

theorem select_congr {w w' : BitVec 1} {x x' y y' : EReal} (h : w = w') (hx : x = x') (hy : y = y') :
    Scalar.select w x y = Scalar.select w' x' y' := by rw [h, hx, hy]

theorem v313_val (e : Fin 128) (b : Fin 2) (g : Fin 16) (hg : g.val = 2 * (e.val / 16) + b.val) (s : Fin 12) (r j : Fin 512) :
    (res_main_v313 V0 : FVec Ideal S16x12x512x512 .f32) (ix4 g s r j) = rlog V0 b s r e j := by
  unfold res_main_v313 rlog
  refine (select_read _ _ _ _).trans (select_congr ?_ ?_ rfl)
  · refine (tile_read _ _ ⟨e.val / 16, by omega⟩ b g hg s r j).trans ?_
    rw [or_read, or_read, or_read, band_read, band_read, v286_val, v262_val]
    rw [thr_read _ _ _ _ _ (by decide) (by decide), thr_read _ _ _ _ _ (by decide) (by decide), thr_read _ _ _ _ _ (by decide) (by decide), thr_read _ _ _ _ _ (by decide) (by decide)]
    rw [mean_read (V0 (Proc.devRef .tc main_arg3))]
    rfl
  · refine (logit_read _ _ g s r j).trans ?_
    refine congrArg (fun u => Ideal.div u _) (Finset.sum_congr rfl fun t _ => ?_)
    exact congrArg₂ (fun u v : EReal => u * v) (stack_read (res_main_v4 V0) e b g hg s r t) (stack_read (res_main_v9 V0) e b g hg s j t)

theorem v320_val (e : Fin 128) (b : Fin 2) (g : Fin 16) (hg : g.val = 2 * (e.val / 16) + b.val) (s : Fin 12) (r j : Fin 512) :
    (res_main_v320 V0 : FVec Ideal S16x12x512x512 .f32) (ix4 g s r j)
      = Ideal.exp (rlog V0 b s r e j - top (rlog V0 b s r e)) := by
  unfold res_main_v320
  refine (exp_read _ _ g s r j).trans ?_
  rw [max_read (res_main_v313 V0)]
  unfold top
  have h : (fun k => (res_main_v313 V0 : FVec Ideal S16x12x512x512 .f32) (ix4 g s r k)) = rlog V0 b s r e :=
    funext fun k => v313_val V0 e b g hg s r k
  rw [h, v313_val V0 e b g hg s r j]

theorem v325_val (e : Fin 128) (b : Fin 2) (g : Fin 16) (hg : g.val = 2 * (e.val / 16) + b.val) (s : Fin 12) (r : Fin 512) (t : Fin 16) :
    (res_main_v325 V0 : FVec Ideal S16x12x512x16 .f32) (ix4 g s r t)
      = soft (rlog V0 b s r e) (fun j => pV V0 (ix4 b s j (hd e t))) := by
  unfold res_main_v325 soft
  refine (soft_read (res_main_v320 V0) _ g s r t).trans ?_
  refine Finset.sum_congr rfl fun j _ => congrArg₂ (fun u v : EReal => u * v) (congrArg₂ Ideal.div ?_ ?_) ?_
  · exact v320_val V0 e b g hg s r j
  · exact Finset.sum_congr rfl fun k _ => v320_val V0 e b g hg s r k
  · exact stack_read (res_main_v14 V0) e b g hg s j t

/-- The heads put side by side and projected. -/
theorem out_read (x : FVec Ideal S16x12x512x16 .f32) (w : FVec Ideal S128x128 .f32) (d : FVec Ideal S128 .f32)
    (b : Fin 2) (s : Fin 12) (r : Fin 512) (f : Fin 128) :
    addf (F := Ideal) (φ := .f32) (Host.dotGeneral (F := Ideal) dot_S2x12x512x128_S128x128_S2x12x512x128_3_0_012_1_n_n none
      (concatenate S2x12x512x128 3 [⟨S2x12x512x16, extractStridedSlice S2x12x512x16 ![0, 0, 0, 0] x slices_S16x12x512x16_S2x12x512x16_0_0_0_0⟩, ⟨S2x12x512x16, extractStridedSlice S2x12x512x16 ![2, 0, 0, 0] x slices_S16x12x512x16_S2x12x512x16_2_0_0_0⟩, ⟨S2x12x512x16, extractStridedSlice S2x12x512x16 ![4, 0, 0, 0] x slices_S16x12x512x16_S2x12x512x16_4_0_0_0⟩, ⟨S2x12x512x16, extractStridedSlice S2x12x512x16 ![6, 0, 0, 0] x slices_S16x12x512x16_S2x12x512x16_6_0_0_0⟩, ⟨S2x12x512x16, extractStridedSlice S2x12x512x16 ![8, 0, 0, 0] x slices_S16x12x512x16_S2x12x512x16_8_0_0_0⟩, ⟨S2x12x512x16, extractStridedSlice S2x12x512x16 ![10, 0, 0, 0] x slices_S16x12x512x16_S2x12x512x16_10_0_0_0⟩, ⟨S2x12x512x16, extractStridedSlice S2x12x512x16 ![12, 0, 0, 0] x slices_S16x12x512x16_S2x12x512x16_12_0_0_0⟩, ⟨S2x12x512x16, extractStridedSlice S2x12x512x16 ![14, 0, 0, 0] x slices_S16x12x512x16_S2x12x512x16_14_0_0_0⟩] concatenates_S2x12x512x16_S2x12x512x16_S2x12x512x16_S2x12x512x16_S2x12x512x16_S2x12x512x16_S2x12x512x16_S2x12x512x16_S2x12x512x128_d3)
      (transpose S128x128 [1, 0] w transposes_S128x128_S128x128_1_0))
      (broadcastInDim S2x12x512x128 ![0, 1, 2, 3] bcast_S1x1x1x128_S2x12x512x128_0_1_2_3
        (broadcastInDim S1x1x1x128 ![3] bcast_S128_S1x1x1x128_3 d)) (ix4 b s r f)
      = proj (fun e => x (ix4 ⟨2 * (e.val / 16) + b.val, by omega⟩ s r ⟨e.val % 16, by omega⟩)) (fun i e => w (ix2 e i)) (fun e => d (ix1 e)) f := by
  refine (proj_read _ w d b s r f).trans ?_
  exact congrArg (fun u => proj u (fun i e => w (ix2 e i)) (fun e => d (ix1 e)) f) (funext fun e => unstack_read x b s r e)

theorem hd_self (e : Fin 128) : hd e ⟨e.val % 16, by omega⟩ = e := Fin.ext (by show 16 * (e.val / 16) + e.val % 16 = e.val; omega)

/-- The reference's result. -/
def rout (b : Fin 2) (s : Fin 12) (r : Fin 512) (f : Fin 128) : EReal :=
  proj (fun e => soft (rlog V0 b s r e) (fun j => pV V0 (ix4 b s j e)))
    (fun i e => rWo V0 (ix2 e i)) (fun e => rbo V0 (ix1 e)) f

theorem out_val (b : Fin 2) (s : Fin 12) (r : Fin 512) (f : Fin 128) :
    proj (fun e => (res_main_v325 V0 : FVec Ideal S16x12x512x16 .f32) (ix4 ⟨2 * (e.val / 16) + b.val, by omega⟩ s r ⟨e.val % 16, by omega⟩))
      (fun i e => rWo V0 (ix2 e i)) (fun e => rbo V0 (ix1 e)) f = rout V0 b s r f := by
  unfold rout
  refine congrArg (fun u => proj u (fun i e => rWo V0 (ix2 e i)) (fun e => rbo V0 (ix1 e)) f) (funext fun e => ?_)
  refine (v325_val V0 e b _ rfl s r _).trans ?_
  rw [hd_self]

end Cert.Ref
end
-- ==== Proof.Math.lean ====
module

public import Idealize.ShloMosaic.Lib.Pointwise
public import proofs.«01_k».proof.Proof.RefVal

@[expose] public section

set_option maxRecDepth 65536

noncomputable section

/-! The mathematics between the two programs: masked exponentials over their sum are a softmax, every query row sees
    some key row, and the scale may be put into the query weights. -/

namespace Cert.Num

open Idealize.ShloMosaic
open Cert.Msk Cert.Att Cert.Srt Cert.Ref

/-! The literals. -/

theorem quarter : Ideal.ofBits FTy.f32 0x3E800000#32 = ((1 / 4 : ℝ) : EReal) := by
  simp [Ideal.ofBits, Ideal.ieee, -EReal.coe_mul]; norm_num

theorem four : Ideal.ofBits FTy.f32 0x40800000#32 = ((4 : ℝ) : EReal) := by
  simp [Ideal.ofBits, Ideal.ieee, -EReal.coe_mul]; norm_num

theorem ninf : Ideal.ofBits FTy.f32 0xFF800000#32 = ⊥ := by
  simp [Ideal.ofBits, Ideal.ieee]

theorem pinf : Ideal.ofBits FTy.f32 0x7F800000#32 = ⊤ := by
  simp [Ideal.ofBits, Ideal.ieee]

theorem low_weight : Ideal.ofBits FTy.f32 1063507728#32 = ((14931728 / 16777216 : ℝ) : EReal) := by
  simp [Ideal.ofBits, Ideal.ieee, -EReal.coe_mul]; norm_num

theorem high_weight : Ideal.ofBits FTy.f32 1038174080#32 = ((1845488 / 16777216 : ℝ) : EReal) := by
  simp [Ideal.ofBits, Ideal.ieee, -EReal.coe_mul]; norm_num

/-! Every row sees some row. -/

/-- Whether row `r` of a table sees row `j`. -/
def bitOf (X : Fin 512 → Fin 12 → EReal) (r j : Fin 512) : BitVec 1 :=
  maskBit (dist12 (X r) (X j)) (sorted fun k => dist12 (X r) (X k))
    (Ideal.div (∑ k, X j k) (Ideal.ofBits FTy.f32 1094713344#32))

theorem dist_nonneg (a b : Fin 12 → EReal) : 0 ≤ dist12 a b := by
  unfold dist12
  refine Finset.sum_nonneg fun k _ => ?_
  show (0 : EReal) ≤ max (a k - b k) (-(a k - b k))
  rcases le_total 0 (a k - b k) with h | h
  · exact le_max_of_le_left h
  · exact le_max_of_le_right (EReal.neg_nonneg.mpr h)

theorem ori_left (x y : BitVec 1) (h : x = 1#1) : IntOp.ori x y = 1#1 := by
  subst h
  revert y
  decide

/-- The least distance is below the first quantile. -/
theorem least_le (s : Fin 512 → EReal) (hs : Monotone s) : s 0 ≤ thr s 5 6 1063507728#32 1038174080#32 := by
  unfold thr
  rw [low_weight, high_weight]
  have hl : (0 : EReal) ≤ ((14931728 / 16777216 : ℝ) : EReal) := EReal.coe_nonneg.mpr (by norm_num)
  have hh : (0 : EReal) ≤ ((1845488 / 16777216 : ℝ) : EReal) := EReal.coe_nonneg.mpr (by norm_num)
  have e : s 0 = s 0 * ((14931728 / 16777216 : ℝ) : EReal) + s 0 * ((1845488 / 16777216 : ℝ) : EReal) := by
    rw [← EReal.left_distrib_of_nonneg hl hh, ← EReal.coe_add]
    norm_num
  calc s 0 = _ := e
    _ ≤ _ := add_le_add (mul_le_mul_of_nonneg_right (hs (by decide)) hl) (mul_le_mul_of_nonneg_right (hs (by decide)) hh)

theorem bit_some (X : Fin 512 → Fin 12 → EReal) (r : Fin 512) : ∃ j, bitOf X r j = 1#1 := by
  obtain ⟨σ, hσ⟩ := sorted_perm fun k => dist12 (X r) (X k)
  refine ⟨σ 0, ?_⟩
  have h0 : dist12 (X r) (X (σ 0)) = sorted (fun k => dist12 (X r) (X k)) 0 := by rw [hσ]; rfl
  have hle := least_le _ (sorted_monotone fun k => dist12 (X r) (X k))
  unfold bitOf maskBit
  rw [h0]
  iterate 10 refine ori_left _ _ ?_
  rw [decide_eq_true hle]
  rfl

/-! Masked exponentials over their sum. -/

/-- The mask as a number. -/
def mu (β : BitVec 1) : EReal := FloatOps.sitofp (F := Ideal) FTy.f32 (BitVec.setWidth 32 β)

theorem mu_val (β : BitVec 1) : mu β = ((if β = 1#1 then (1 : ℝ) else 0 : ℝ) : EReal) := by
  have h : β = 0#1 ∨ β = 1#1 := by revert β; decide
  show (((BitVec.setWidth 32 β).toInt : ℝ) : EReal) = _
  rcases h with h | h <;> subst h <;> simp

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A real number that is not negative comes out of a sum of extended reals. -/
theorem mul_sum_coe {ι : Type} (s : Finset ι) (c : ℝ) (hc : 0 ≤ c) (f : ι → EReal) :
    ∑ i ∈ s, (c : EReal) * f i = (c : EReal) * ∑ i ∈ s, f i := by
  classical
  induction s using Finset.induction_on with
  | empty => simp
  | insert a s ha ih =>
    rw [Finset.sum_insert ha, Finset.sum_insert ha, ih]
    exact (EReal.left_distrib_of_nonneg_of_ne_top (EReal.coe_nonneg.mpr hc) (EReal.coe_ne_top c) _ _).symm

/-- The greatest of a row of reals and negative infinities, one of them real, is real. -/
theorem top_real (L : Fin 512 → EReal) (hL : ∀ j, L j < ⊤) (hb : ∃ j, ⊥ < L j) : ∃ m : ℝ, top L = (m : EReal) := by
  obtain ⟨j, hj⟩ := hb
  have e : top L = Finset.fold max (⊥ : EReal) L Finset.univ := by
    unfold top
    rw [ninf]
    exact max_eq_right bot_le
  have h1 : top L < ⊤ := by
    rw [e]
    exact (Finset.fold_max_lt _).mpr ⟨bot_lt_top, fun x _ => hL x⟩
  have h2 : ⊥ < top L := by
    rw [e]
    exact (Finset.lt_fold_max _).mpr (Or.inr ⟨j, Finset.mem_univ j, hj⟩)
  exact ⟨(top L).toReal, (EReal.coe_toReal h1.ne h2.ne').symm⟩

/-- The softmax of masked logits is the masked exponentials over their sum. -/
theorem soft_eq (β : Fin 512 → BitVec 1) (a : Fin 512 → ℝ) (v : Fin 512 → EReal) (h : ∃ j, β j = 1#1) :
    soft (fun j => Scalar.select (β j) (a j : EReal) ⊥) v
      = Ideal.div (∑ j, Ideal.exp (a j : EReal) * mu (β j) * v j) (∑ j, Ideal.exp (a j : EReal) * mu (β j)) := by
  obtain ⟨j0, hj0⟩ := h
  have hs : ∀ j, Scalar.select (β j) (a j : EReal) ⊥ = if β j = 1#1 then (a j : EReal) else ⊥ := fun j => rfl
  obtain ⟨m, hm⟩ := top_real (fun j => Scalar.select (β j) (a j : EReal) ⊥)
    (fun j => by
      show Scalar.select (β j) (a j : EReal) ⊥ < ⊤
      rw [hs]
      split
      · exact EReal.coe_lt_top _
      · exact bot_lt_top)
    ⟨j0, by
      show ⊥ < Scalar.select (β j0) (a j0 : EReal) ⊥
      rw [hs, if_pos hj0]
      exact EReal.bot_lt_coe _⟩
  have hu : ∀ j, Ideal.exp (a j : EReal) * mu (β j) = ((if β j = 1#1 then Real.exp (a j) else 0 : ℝ) : EReal) := fun j => by
    rw [mu_val, Ideal.exp_coe, ← EReal.coe_mul]
    split <;> simp
  have hw : ∀ j, Ideal.exp (Scalar.select (β j) (a j : EReal) ⊥ - (m : EReal))
      = ((Real.exp (-m) * (if β j = 1#1 then Real.exp (a j) else 0) : ℝ) : EReal) := fun j => by
    rw [hs]
    split
    · rw [← EReal.coe_sub, Ideal.exp_coe, ← Real.exp_add]
      congr 2
      ring
    · rw [EReal.bot_sub, Ideal.exp_bot]
      simp
  unfold soft
  rw [hm]
  simp only [hw, hu]
  generalize hU : (fun j => if β j = 1#1 then Real.exp (a j) else 0) = u
  have hU' : ∀ j, (if β j = 1#1 then Real.exp (a j) else 0) = u j := fun j => congrFun hU j
  simp only [hU']
  have hnn : ∀ j, 0 ≤ u j := fun j => by
    rw [← hU' j]
    split
    · exact (Real.exp_pos _).le
    · exact le_rfl
  have hpos : 0 < ∑ j, u j := by
    refine Finset.sum_pos' (fun j _ => hnn j) ⟨j0, Finset.mem_univ j0, ?_⟩
    rw [← hU' j0, if_pos hj0]
    exact Real.exp_pos _
  rw [coe_sum, coe_sum, ← Finset.mul_sum, Ideal.div_coe hpos.ne']
  have hne : Real.exp (-m) * ∑ j, u j ≠ 0 := (mul_pos (Real.exp_pos _) hpos).ne'
  have hq : ∀ j, Ideal.div ((Real.exp (-m) * u j : ℝ) : EReal) ((Real.exp (-m) * ∑ j, u j : ℝ) : EReal) * v j
      = ((1 / ∑ j, u j : ℝ) : EReal) * ((u j : EReal) * v j) := fun j => by
    rw [Ideal.div_coe hne, ← EReal.coe_mul, ← mul_assoc, ← EReal.coe_mul]
    congr 2
    have := Real.exp_pos (-m)
    field_simp
  simp only [hq]
  rw [mul_sum_coe _ _ (by positivity), mul_comm]

/-! The scale, put into the query weights. -/

theorem proj_real (x : Fin 128 → EReal) (w : Fin 128 → Fin 128 → EReal) (b : Fin 128 → EReal)
    (hx : ∀ i, ∃ y : ℝ, x i = y) (hw : ∀ i e, ∃ y : ℝ, w i e = y) (hb : ∀ e, ∃ y : ℝ, b e = y) :
    ∃ p : Fin 128 → ℝ, (∀ e, proj x w b e = (p e : EReal))
      ∧ ∀ e, proj x (fun i e => w i e * Ideal.ofBits FTy.f32 0x3E800000#32)
          (fun e => b e * Ideal.ofBits FTy.f32 0x3E800000#32) e = ((p e / 4 : ℝ) : EReal) := by
  choose xr hx using hx
  choose wr hw using hw
  choose br hb using hb
  refine ⟨fun e => ∑ i, xr i * wr i e + br e, fun e => ?_, fun e => ?_⟩
  · unfold proj
    simp only [hx, hw, hb, ← EReal.coe_mul]
    rw [coe_sum, ← EReal.coe_add]
  · unfold proj
    simp only [hx, hw, hb, quarter, ← EReal.coe_mul]
    rw [coe_sum, ← EReal.coe_add, add_div, Finset.sum_div]
    congr 2
    · exact Finset.sum_congr rfl fun i _ => by ring
    · ring

/-- The kernel's head is the reference's: scaled queries, a mask by multiplication, one division at the end. -/
theorem head_eq (q q' : Fin 128 → EReal) (k v : Fin 512 → Fin 128 → EReal) (β : Fin 512 → BitVec 1)
    (h : ∃ j, β j = 1#1) (qr : Fin 128 → ℝ) (kr : Fin 512 → Fin 128 → ℝ) (hq : ∀ e, q e = (qr e : EReal))
    (hq' : ∀ e, q' e = ((qr e / 4 : ℝ) : EReal)) (hk : ∀ j e, k j e = (kr j e : EReal)) (e : Fin 128) :
    headOut q' k v (fun j => mu (β j)) e
      = soft (fun j => Scalar.select (β j)
          (Ideal.div (∑ t : Fin 16, q (hd e t) * k j (hd e t)) (Ideal.ofBits FTy.f32 0x40800000#32))
          (Ideal.ofBits FTy.f32 0xFF800000#32)) (fun j => v j e) := by
  have h1 : ∀ j, logit q' (k j) e = ((∑ t : Fin 16, qr (hd e t) * kr j (hd e t)) / 4 : ℝ) := fun j => by
    unfold logit
    simp only [hq', hk, ← EReal.coe_mul]
    rw [coe_sum, Finset.sum_div]
    congr 1
    exact Finset.sum_congr rfl fun t _ => by ring
  have h2 : ∀ j, Ideal.div (∑ t : Fin 16, q (hd e t) * k j (hd e t)) (Ideal.ofBits FTy.f32 0x40800000#32)
      = ((∑ t : Fin 16, qr (hd e t) * kr j (hd e t)) / 4 : ℝ) := fun j => by
    rw [four]
    simp only [hq, hk, ← EReal.coe_mul]
    rw [coe_sum, Ideal.div_coe (by norm_num), ← EReal.coe_mul]
    congr 1
    ring
  simp only [h2, ninf]
  rw [soft_eq β (fun j => (∑ t : Fin 16, qr (hd e t) * kr j (hd e t)) / 4) (fun j => v j e) h]
  unfold headOut
  simp only [h1]

end Cert.Num

end
-- ==== Proof.KernelVal.lean ====
module

public import Idealize.ShloMosaic.Lib.Pointwise
public import proofs.«01_k».proof.Proof.Regions
public import proofs.«01_k».proof.Proof.HostVals
public import proofs.«01_k».proof.Proof.MaskVal
public import proofs.«01_k».proof.Proof.Math

@[expose] public section

set_option maxRecDepth 65536

noncomputable section

/-! The kernel's result at an index, in the terms of the arguments. -/

namespace Cert.KVal

open Idealize.ShloMosaic Idealize.ShloMosaic.TcCoe Idealize.SL.Sem Idealize.ShloMosaic.StableHlo
open Cert.KernelIdeal Cert.KernelIdeal.Gen
open Cert.Msk Cert.Att Cert.Srt Cert.Host1 Cert.Num

variable (m : (ℓ : Loc nD τ sig) → Buf (Elt Ideal) ℓ) (ρ : Dev nD → PrngReg) (c : Dev nD)

/-- One batch's table. -/
def tab (b : Fin 2) (r : Fin 512) (k : Fin 12) : EReal := aX m c (ix3 b r k)

theorem v0_low (b : Fin 2) (r : Fin 512) (k : Fin 12) (h : 12 ≤ 128) :
    V3 m ρ c main_v0 (ix3 b r (k.castLE h)) = tab m c b r k := by
  rw [v0_val, dif_pos (show (k.castLE h).val < 12 from k.isLt)]
  rfl

/-- A sum over a padded row is the sum over the row. -/
theorem pad_sum (f : Fin 12 → EReal) : (∑ x : Fin 128, if h : x.val < 12 then f ⟨x.val, h⟩ else 0) = ∑ k, f k := by
  have e := Fin.sum_univ_add (a := 12) (b := 116) fun x : Fin (12 + 116) => if h : x.val < 12 then f ⟨x.val, h⟩ else (0 : EReal)
  refine e.trans ?_
  have e1 : (∑ i : Fin 12, if h : (Fin.castAdd 116 i).val < 12 then f ⟨(Fin.castAdd 116 i).val, h⟩ else (0 : EReal)) = ∑ k, f k :=
    Finset.sum_congr rfl fun i _ => dif_pos i.isLt
  have e2 : (∑ i : Fin 116, if h : (Fin.natAdd 12 i).val < 12 then f ⟨(Fin.natAdd 12 i).val, h⟩ else (0 : EReal)) = 0 :=
    Finset.sum_eq_zero fun i _ => dif_neg (by show ¬ (12 + i.val < 12); omega)
  rw [e1, e2, add_zero]

/-- The padded table, transposed. -/
abbrev padT : S2x128x512.Idx → EReal := V3 m ρ c main_v1

theorem row_sum (b : Fin 2) (j : Fin 512) : (∑ x : Fin 128, padT m ρ c (ix3 b x j)) = ∑ k, tab m c b j k := by
  rw [← pad_sum]
  exact Finset.sum_congr rfl fun x _ => (v1_val m ρ c b x j).trans (v0_val m ρ c b j x)

/-- The mask the first region leaves. -/
theorem mask_read (b : Fin 2) (r j : Fin 512) : V5 m ρ c main_v2 (ix3 b r j) = mu (Num.bitOf (tab m c b) r j) := by
  rw [v2_eq, Cert.Reg.arr0]
  unfold Cert.Reg.M0
  refine (mask_val _ _ r j).trans ?_
  have hd : ∀ k, k0_pay87 (F := Ideal) (fun p => V3 m ρ c main_v0 (ix3 b (p 1) (p 2)))
      (fun p => V3 m ρ c main_v1 (ix3 b (p 1) (p 2))) (ix2 r k) = dist12 (tab m c b r) (tab m c b k) := fun k => by
    rw [dist_val]
    refine congrArg₂ dist12 (funext fun t => v0_low m ρ c b r t (by decide)) (funext fun t => ?_)
    exact (v1_val m ρ c b _ k).trans (v0_low m ρ c b k t (by decide))
  have hs := row_sum m ρ c b j
  unfold mu Num.bitOf
  rw [← hs, ← hd j, ← funext hd]
  rfl

/-- The kernel's result. -/
theorem kernel_val (b : Fin 2) (s : Fin 12) (r : Fin 512) (f : Fin 128) :
    Cert.Reg.M1 (V5 m ρ) c (ix4 b s r f)
      = proj (headOut
          (proj (fun i => aQ m c (ix4 b s r i)) (fun i e => aWq m c (ix2 e i) * Ideal.ofBits FTy.f32 0x3E800000#32)
            (fun e => abq m c (ix1 e) * Ideal.ofBits FTy.f32 0x3E800000#32))
          (fun j => proj (fun i => aK m c (ix4 b s j i)) (fun i e => aWk m c (ix2 e i)) (fun e => abk m c (ix1 e)))
          (fun j => proj (fun i => aV m c (ix4 b s j i)) (fun i e => aWv m c (ix2 e i)) (fun e => abv m c (ix1 e)))
          (fun j => mu (Num.bitOf (tab m c b) r j)))
        (fun i e => aWo m c (ix2 e i)) (fun e => abo m c (ix1 e)) f := by
  unfold Cert.Reg.M1
  refine (attn_val _ _ _ _ _ _ _ _ _ _ _ _ r f).trans ?_
  have h0 : ∀ i, V5 m ρ c main_arg0 (ix4 b s r i) = aQ m c (ix4 b s r i) := fun i => congrFun (a0_eq m ρ c) _
  have h1 : ∀ j i, V5 m ρ c main_arg1 (ix4 b s j i) = aK m c (ix4 b s j i) := fun j i => congrFun (a1_eq m ρ c) _
  have h2 : ∀ j i, V5 m ρ c main_arg2 (ix4 b s j i) = aV m c (ix4 b s j i) := fun j i => congrFun (a2_eq m ρ c) _
  have h3 : ∀ j, V5 m ρ c main_v2 (ix3 b r j) = mu (Num.bitOf (tab m c b) r j) := mask_read m ρ c b r
  simp only [← h0, ← h1, ← h2, ← h3, ← v5_val m ρ c, ← v8_val m ρ c, ← v9_val m ρ c, ← v10_val m ρ c, ← v11_val m ρ c,
    ← v12_val m ρ c, ← v13_val m ρ c, ← v14_val m ρ c]
  rfl

end Cert.KVal

end
-- ==== Proof.Meet.lean ====
module

public import Idealize.ShloMosaic.Lib.Pointwise
public import proofs.«01_k».proof.Proof.KernelVal
public import proofs.«01_k».proof.Proof.RefVal

@[expose] public section

set_option maxRecDepth 65536

noncomputable section

/-! The two results, index by index, from the same arguments. -/

namespace Cert.Meet

open Idealize.ShloMosaic Idealize.ShloMosaic.TcCoe Idealize.SL.Sem Idealize.ShloMosaic.StableHlo
open Cert.Msk Cert.Att Cert.Host1 Cert.KVal Cert.Ref

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V0 : Valuation Cert.ReferenceIdeal.τ Cert.ReferenceIdeal.sig (Elt Ideal))

/-- The reference's mask is the kernel's. -/
theorem rbit_eq (hX : rX V0 = aX m c) (b : Fin 2) (r j : Fin 512) : rbit V0 b r j = Num.bitOf (tab m c b) r j := by
  have hd : ∀ k, d51 V0 (ix3 b r k) = dist12 (tab m c b r) (tab m c b k) := fun k => by
    refine (v51_val V0 b r k).trans ?_
    rw [hX]
    rfl
  have hs : (fun k => d52 V0 (ix3 b r k)) = Cert.Srt.sorted fun k => dist12 (tab m c b r) (tab m c b k) := by
    funext k
    refine (v52_val V0 b r k).trans ?_
    exact congrFun (congrArg Cert.Srt.sorted (funext hd)) k
  unfold rbit Num.bitOf
  rw [hd, hs, hX]
  rfl

theorem meet (hQ : rQ V0 = aQ m c) (hK : rK V0 = aK m c) (hV : rV V0 = aV m c) (hX : rX V0 = aX m c)
    (hWq : rWq V0 = aWq m c) (hbq : rbq V0 = abq m c) (hWk : rWk V0 = aWk m c) (hbk : rbk V0 = abk m c)
    (hWv : rWv V0 = aWv m c) (hbv : rbv V0 = abv m c) (hWo : rWo V0 = aWo m c) (hbo : rbo V0 = abo m c)
    (fQ : ∀ i, ∃ y : ℝ, aQ m c i = (y : EReal)) (fK : ∀ i, ∃ y : ℝ, aK m c i = (y : EReal))
    (fWq : ∀ i, ∃ y : ℝ, aWq m c i = (y : EReal)) (fbq : ∀ i, ∃ y : ℝ, abq m c i = (y : EReal))
    (fWk : ∀ i, ∃ y : ℝ, aWk m c i = (y : EReal)) (fbk : ∀ i, ∃ y : ℝ, abk m c i = (y : EReal))
    (b : Fin 2) (s : Fin 12) (r : Fin 512) (f : Fin 128) :
    rout V0 b s r f = Cert.Reg.M1 (Cert.KernelIdeal.Gen.V5 m ρ) c (ix4 b s r f) := by
  rw [kernel_val m ρ c b s r f]
  unfold rout
  rw [hWo, hbo]
  refine congrFun (congrArg (fun x => proj x (fun i e => aWo m c (ix2 e i)) (fun e => abo m c (ix1 e))) (funext fun e => ?_)) f
  have h4 : ∀ e, pQ V0 (ix4 b s r e)
      = proj (fun i => aQ m c (ix4 b s r i)) (fun i e => aWq m c (ix2 e i)) (fun e => abq m c (ix1 e)) e := fun e => by
    refine (v4_val V0 b s r e).trans ?_
    rw [hQ, hWq, hbq]
  have h9 : ∀ j e, pK V0 (ix4 b s j e)
      = proj (fun i => aK m c (ix4 b s j i)) (fun i e => aWk m c (ix2 e i)) (fun e => abk m c (ix1 e)) e := fun j e => by
    refine (v9_val V0 b s j e).trans ?_
    rw [hK, hWk, hbk]
  have h14 : ∀ j e, pV V0 (ix4 b s j e)
      = proj (fun i => aV m c (ix4 b s j i)) (fun i e => aWv m c (ix2 e i)) (fun e => abv m c (ix1 e)) e := fun j e => by
    refine (v14_val V0 b s j e).trans ?_
    rw [hV, hWv, hbv]
  obtain ⟨qr, hq, hq'⟩ := Num.proj_real (fun i => aQ m c (ix4 b s r i)) (fun i e => aWq m c (ix2 e i))
    (fun e => abq m c (ix1 e)) (fun i => fQ _) (fun i e => fWq _) (fun e => fbq _)
  have hk : ∀ j, ∃ p : Fin 128 → ℝ, ∀ e, proj (fun i => aK m c (ix4 b s j i)) (fun i e => aWk m c (ix2 e i))
      (fun e => abk m c (ix1 e)) e = (p e : EReal) := fun j => by
    obtain ⟨p, hp, -⟩ := Num.proj_real (fun i => aK m c (ix4 b s j i)) (fun i e => aWk m c (ix2 e i))
      (fun e => abk m c (ix1 e)) (fun i => fK _) (fun i e => fWk _) (fun e => fbk _)
    exact ⟨p, hp⟩
  choose kr hk using hk
  refine Eq.trans ?_ (Num.head_eq _ _ _ (fun j => proj (fun i => aV m c (ix4 b s j i)) (fun i e => aWv m c (ix2 e i))
    (fun e => abv m c (ix1 e))) (fun j => Num.bitOf (tab m c b) r j) (Num.bit_some _ r) qr kr hq hq' hk e).symm
  refine congrArg₂ soft (funext fun j => ?_) (funext fun j => h14 j e)
  unfold rlog
  rw [rbit_eq m c V0 hX b r j]
  simp only [h4, h9]

end Cert.Meet

end
-- ==== Proof.PreRead.lean ====
module

public import Idealize.ShloMosaic.Lib.Pointwise
public import proofs.«01_k».proof.Defs

@[expose] public section

set_option maxRecDepth 65536

noncomputable section

/-! What the precondition says: every query, key, and query and key weight and bias is a real number. -/

namespace Cert.PreRead

open Idealize.ShloMosaic
open Cert.Pre_finite_logits

theorem facts : Cert.Pre_finite_logits.Facts where
  bcast_S_S2x12x512x128 := by decide
  reducesTo_S2x12x512x128_S_d0_1_2_3 := by decide
  h_S_ := by decide
  bcast_S_S128x128 := by decide
  reducesTo_S128x128_S_d0_1 := by decide
  bcast_S_S128 := by decide
  reducesTo_S128_S_d0 := by decide

theorem andi_one (x y : BitVec 1) : IntOp.andi x y = 1#1 ↔ x = 1#1 ∧ y = 1#1 := by
  revert x y
  decide

theorem andi_read (x y : IVec S_ 1) (i : S_.Idx) : andi x y i = IntOp.andi (x i) (y i) := rfl

theorem fold_one {ι : Type} (s : Finset ι) (f : ι → BitVec 1) (b : BitVec 1)
    (h : s.fold IntOp.andi b f = 1#1) : ∀ i ∈ s, f i = 1#1 := by
  classical
  induction s using Finset.induction_on with
  | empty => intro i hi; exact absurd hi (Finset.notMem_empty i)
  | insert a s ha ih =>
    rw [Finset.fold_insert ha, andi_one] at h
    intro i hi
    rcases Finset.mem_insert.mp hi with rfl | hi
    · exact h.1
    · exact ih h.2 i hi

/-- An `and` over everything that is one is one everywhere. -/
theorem all_one {s : Shape} {dims : List (Fin s.rank)} (x : IVec s 1) (init : IVec S_ 1) (h : s.ReducesTo dims S_)
    (hu : 0 < S_.numel) (j : S_.Idx) (e : Host.reduce IntOp.andi x init h hu j = 1#1) (i : s.Idx) : x i = 1#1 := by
  rw [Host.reduce_eq_fold] at e
  exact fold_one _ _ _ e i (Finset.mem_filter.mpr ⟨Finset.mem_univ i, funext fun a => a.elim0⟩)

theorem pinf' : Ideal.ofBits FTy.f32 0x7F800000#32 = ⊤ := by
  simp [Ideal.ofBits, Ideal.ieee]

theorem real_of {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ y : ℝ, a i = (y : EReal) := by
  have h' : BitVec.ofBool (decide (max (a i : EReal) (-(a i)) < Ideal.ofBits FTy.f32 0x7F800000#32)) = 1#1 := h
  rw [pinf'] at h'
  have h1 : max (a i : EReal) (-(a i)) < ⊤ := by
    by_contra hc
    rw [decide_eq_false hc] at h'
    exact absurd h' (by decide)
  obtain ⟨h2, h3⟩ := max_lt_iff.mp h1
  have h4 : (a i : EReal) ≠ ⊥ := fun e => by
    rw [e] at h3
    exact absurd h3 (by simp)
  exact ⟨(a i : EReal).toReal, (EReal.coe_toReal h2.ne h4).symm⟩

theorem real_all {s : Shape} {dims : List (Fin s.rank)} {a : FVec Ideal s .f32} {hb : S_.BroadcastsInDim s (![] : Fin 0 → Fin s.rank)}
    {init : IVec S_ 1} {h : s.ReducesTo dims S_} {hu : 0 < S_.numel} {j : S_.Idx}
    (e : Host.reduce IntOp.andi (cmpf .olt (Host.absf a) (broadcastInDim s ![] hb (constant (F := Ideal) S_ .f32 0x7F800000#32)))
      init h hu j = 1#1) (i : s.Idx) : ∃ y : ℝ, a i = (y : EReal) := real_of a hb i (all_one _ init h hu j e i)

theorem read (x0 x1 x2 : FVec Ideal S2x12x512x128 .f32) (x3 : FVec Ideal S2x512x12 .f32) (x4 : FVec Ideal S512x512 .f32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : IVec S_ 32)
    (h : @Cert.Pre_finite_logits.fn facts Ideal _ x0 x1 x2 x3 x4 x5 x6 x7 x8 x9 x10 x11 x12 x13 = fun _ => 1#1) :
    (∀ i, ∃ y : ℝ, x0 i = (y : EReal)) ∧ (∀ i, ∃ y : ℝ, x1 i = (y : EReal)) ∧ (∀ i, ∃ y : ℝ, x5 i = (y : EReal))
      ∧ (∀ i, ∃ y : ℝ, x6 i = (y : EReal)) ∧ (∀ i, ∃ y : ℝ, x7 i = (y : EReal)) ∧ (∀ i, ∃ y : ℝ, x8 i = (y : EReal)) := by
  have h := congrFun h fun a => a.elim0
  unfold fn fn_part1 at h
  simp only [andi_read, andi_one] at h
  obtain ⟨⟨⟨⟨⟨h0, h1⟩, h5⟩, h6⟩, h7⟩, h8⟩ := h
  exact ⟨real_all (h := facts.reducesTo_S2x12x512x128_S_d0_1_2_3) (j := fun a => a.elim0) h0, real_all (h := facts.reducesTo_S2x12x512x128_S_d0_1_2_3) (j := fun a => a.elim0) h1,
    real_all (h := facts.reducesTo_S128x128_S_d0_1) (j := fun a => a.elim0) h5,
    real_all (h := facts.reducesTo_S128_S_d0) (j := fun a => a.elim0) h6, real_all (h := facts.reducesTo_S128x128_S_d0_1) (j := fun a => a.elim0) h7,
    real_all (h := facts.reducesTo_S128_S_d0) (j := fun a => a.elim0) h8⟩

end Cert.PreRead

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.ReferenceIdeal.Run
public import proofs.«01_k».proof.Proof.Launch
public import proofs.«01_k».proof.Proof.Meet
public import proofs.«01_k».proof.Proof.PreRead
public import Idealize.ShloMosaic.Lib.Quiescent
public import Idealize.ShloMosaic.Adequacy
public import Idealize.ShloMosaic.Init

@[expose] public section

set_option maxRecDepth 65536

noncomputable section

namespace Cert.Proof

open Idealize.ShloMosaic Idealize.ShloMosaic.TcCoe Idealize.SL.Sem Idealize.ShloMosaic.StableHlo

/-- The reference ends with its arguments unchanged; it declares no semaphore. -/
theorem frame_ref : Cert.quiescent_ReferenceIdeal (hReferenceIdeal := Cert.ReferenceIdeal.Gen.facts) := fun m g _ =>
  (θ_run (Cert.ReferenceIdeal.defs (F := Ideal)) _ _).mono (fun r h => ⟨fun c => (h c).2,
      Idealize.ShloMosaic.sem_eq_zero_of_no_sems (by decide) r.2⟩)
    (Cert.ReferenceIdeal.Value.run (F := Ideal) m g)

/-- The two programs end with equal results. -/
theorem equal : Cert.algebraic_KernelIdeal_ReferenceIdeal_pre_finite_logits (hKernelIdeal := Cert.KernelIdeal.Gen.facts)
    (hReferenceIdeal := Cert.ReferenceIdeal.Gen.facts) (hPre_finite_logits := Cert.PreRead.facts) := by
  intro m g m' g' hpre hargs
  refine ⟨fun c => Cert.Reg.M1 (Cert.KernelIdeal.Gen.V5 m g) c, ?_, ?_⟩
  · exact (θ_run _ _ _).mono (fun r h c => ⟨(h c).1.trans ((Cert.KernelIdeal.Gen.W6_arr m g c 12).trans
      (Cert.Reg.arr1 (Cert.KernelIdeal.Gen.V5 m g) c)), (h c).2⟩) (Cert.Run.run_result m g)
  · refine (θ_run _ _ _).mono (fun r h c => ⟨(h c).1.trans ?_, (h c).2⟩) (Cert.ReferenceIdeal.Value.run (F := Ideal) m' g')
    obtain ⟨e0, e1, e2, e3, -, e5, e6, e7, e8, e9, e10, e11, e12, -⟩ := hargs c
    obtain ⟨f0, f1, f5, f6, f7, f8⟩ := Cert.PreRead.read _ _ _ _ _ _ _ _ _ _ _ _ _ _ (hpre c)
    funext i
    rw [eq_ix4 i]
    exact ((Cert.Ref.out_read _ _ _ (i 0) (i 1) (i 2) (i 3)).trans (Cert.Ref.out_val _ (i 0) (i 1) (i 2) (i 3))).trans
      (Cert.Meet.meet m g c (launchContents m' c) e0 e1 e2 e3 e5 e6 e7 e8 e9 e10 e11 e12 f0 f1 f5 f6 f7 f8
        (i 0) (i 1) (i 2) (i 3))

theorem claim : Cert.Claim := ⟨Cert.Kernel.Gen.facts, Cert.KernelIdeal.Gen.facts, Cert.ReferenceIdeal.Gen.facts,
  Cert.PreRead.facts, fun m g _ => Cert.Kernel.Gen.frame m g, fun m g _ => Cert.KernelIdeal.Gen.frame m g,
  fun m g _ => Cert.KernelIdeal.Gen.frame m g, frame_ref, fun m g _ => frame_ref m g trivial, trivial, equal⟩

end Cert.Proof

end
